-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ quiescent_UnclippedIdeal (hUnclippedIdeal := hUnclippedIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
    ∧ algebraic_KernelIdeal_UnclippedIdeal (hKernelIdeal := hKernelIdeal) (hUnclippedIdeal := hUnclippedIdeal)
-- ==== Pre_in_range_KernelIdeal.lean ====
abbrev S512x4096 : Shape := ⟨2, ![512, 4096]⟩
abbrev S4096x8192 : Shape := ⟨2, ![4096, 8192]⟩
abbrev S512x8192 : Shape := ⟨2, ![512, 8192]⟩
abbrev S_ : Shape := ⟨0, ![]⟩

class Facts : Prop where
  bcast_S_S512x8192 : S_.BroadcastsInDim S512x8192 (![] : Fin 0 → Fin S512x8192.rank)
  dot_S512x4096_S4096x8192_S512x8192_1_0_0_1_n_n_wf : DotDims.WF S512x4096 S4096x8192 S512x8192 [1] [0] [0] [1] [] []

variable [Facts]

def dot_S512x4096_S4096x8192_S512x8192_1_0_0_1_n_n : DotDims S512x4096 S4096x8192 S512x8192 where
  lhsContracting := [1]
  rhsContracting := [0]
  lhsNonContracting := [0]
  rhsNonContracting := [1]
  lhsBatch := []
  rhsBatch := []
  wf := dot_S512x4096_S4096x8192_S512x8192_1_0_0_1_n_n_wf
def fn {F : FTy → Type} [FloatOps F] (main_arg0 : FVec F S512x4096 .f32) (main_arg1 : FVec F S4096x8192 .f32) : IVec S512x8192 1 :=
  let main_v0 : FVec F S512x8192 .f32 := (fun l r => Host.dotGeneral dot_S512x4096_S4096x8192_S512x8192_1_0_0_1_n_n none l r) main_arg0 main_arg1
  let main_cst : FVec F S_ .f32 := constant S_ .f32 0xC2700000#32
  let main_v1 : FVec F S512x8192 .f32 := broadcastInDim S512x8192 ![] bcast_S_S512x8192 main_cst
  let main_v2 : IVec S512x8192 1 := cmpf .oge main_v0 main_v1
  let main_cst_0 : FVec F S_ .f32 := constant S_ .f32 0x42700000#32
  let main_v3 : FVec F S512x8192 .f32 := broadcastInDim S512x8192 ![] bcast_S_S512x8192 main_cst_0
  let main_v4 : IVec S512x8192 1 := cmpf .ole main_v0 main_v3
  let main_v5 : IVec S512x8192 1 := andi main_v2 main_v4
  main_v5
-- ==== Pre_in_range_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S4096x8192 1 :=
  let main_v0 : FVec F S4096x8192 .f32 := (fun l r => Host.dotGeneral dot_S4096x4096_S4096x8192_S4096x8192_1_0_0_1_n_n none l r) main_arg0 main_arg1
  let main_cst : FVec F S_ .f32 := constant S_ .f32 0xC2700000#32
  let main_v1 : FVec F S4096x8192 .f32 := broadcastInDim S4096x8192 ![] bcast_S_S4096x8192 main_cst
  let main_v2 : IVec S4096x8192 1 := cmpf .oge main_v0 main_v1
  let main_cst_0 : FVec F S_ .f32 := constant S_ .f32 0x42700000#32
  let main_v3 : FVec F S4096x8192 .f32 := broadcastInDim S4096x8192 ![] bcast_S_S4096x8192 main_cst_0
  let main_v4 : IVec S4096x8192 1 := cmpf .ole main_v0 main_v3
  let main_v5 : IVec S4096x8192 1 := andi main_v2 main_v4
  main_v5
-- ==== Kernel.lean ====
abbrev S512x4096 : Shape := ⟨2, ![512, 4096]⟩
abbrev S4096x8192 : Shape := ⟨2, ![4096, 8192]⟩
abbrev S4096x1024 : Shape := ⟨2, ![4096, 1024]⟩
abbrev S2x4096x512 : Shape := ⟨3, ![2, 4096, 512]⟩
abbrev S7x512x1024 : Shape := ⟨3, ![7, 512, 1024]⟩
abbrev S8x512x1024 : Shape := ⟨3, ![8, 512, 1024]⟩
abbrev S2x512x1024 : Shape := ⟨3, ![2, 512, 1024]⟩
abbrev S2 : Shape := ⟨1, ![2]⟩
abbrev S7x2 : Shape := ⟨2, ![7, 2]⟩
abbrev S8 : Shape := ⟨1, ![8]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S512x512 : Shape := ⟨2, ![512, 512]⟩
abbrev S1x512x512 : Shape := ⟨3, ![1, 512, 512]⟩
abbrev S1x1 : Shape := ⟨2, ![1, 1]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .f32⟩
  | .local _ .vmem, ⟨0, _⟩ => ⟨S512x4096, .f32⟩
  | .local _ .vmem, ⟨1, _⟩ => ⟨S2x4096x512, .f32⟩
  | .local _ .vmem, ⟨2, _⟩ => ⟨S7x512x1024, .bf16⟩
  | .local _ .vmem, ⟨3, _⟩ => ⟨S8x512x1024, .bf16⟩
  | .local _ .vmem, ⟨4, _⟩ => ⟨S2x512x1024, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v4 : BitVec 32 := Scalar.xori v2 c7_i32
  let c1_i32_1 : BitVec 32 := 1#32
  let v5 : BitVec 32 := Scalar.muli v4 c1_i32_1
  let v6 : BitVec 32 := Scalar.addi c0_i32 v5
  v6.toNat
def k0_dev2 (d0 : Dev nD) : Nat :=
  let c0_i32_4 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v7 : BitVec 32 := Scalar.xori v2 c4_i32
  let c1_i32_3 : BitVec 32 := 1#32
  let v8 : BitVec 32 := Scalar.muli v7 c1_i32_3
  let v9 : BitVec 32 := Scalar.addi c0_i32_4 v8
  v9.toNat
def k0_dev3 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v10 : BitVec 32 := Scalar.xori v2 c6_i32
  let c1_i32_6 : BitVec 32 := 1#32
  let v11 : BitVec 32 := Scalar.muli v10 c1_i32_6
  let v12 : BitVec 32 := Scalar.addi c0_i32_7 v11
  v12.toNat
def k0_dev4 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v13 : BitVec 32 := Scalar.xori v2 c5_i32
  let c1_i32_9 : BitVec 32 := 1#32
  let v14 : BitVec 32 := Scalar.muli v13 c1_i32_9
  let v15 : BitVec 32 := Scalar.addi c0_i32_10 v14
  v15.toNat
def k0_dev5 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.xori v2 c3_i32
  let c1_i32_12 : BitVec 32 := 1#32
  let v17 : BitVec 32 := Scalar.muli v16 c1_i32_12
  let v18 : BitVec 32 := Scalar.addi c0_i32_13 v17
  v18.toNat
def k0_dev6 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v19 : BitVec 32 := Scalar.xori v2 c2_i32
  let c1_i32_15 : BitVec 32 := 1#32
  let v20 : BitVec 32 := Scalar.muli v19 c1_i32_15
  let v21 : BitVec 32 := Scalar.addi c0_i32_16 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_17 : BitVec 32 := 1#32
  let v22 : BitVec 32 := Scalar.xori v2 c1_i32_17
  let c1_i32_19 : BitVec 32 := 1#32
  let v23 : BitVec 32 := Scalar.muli v22 c1_i32_19
  let v24 : BitVec 32 := Scalar.addi c0_i32_20 v23
  v24.toNat
def k0_off1 (d0 : Dev nD) (c7_i32_22 : BitVec 32) (c0_i32_23 : BitVec 32) : Fin 2 → Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : BitVec 32 := Scalar.xori v2 c7_i32_22
  let c1024_i32 : BitVec 32 := 1024#32
  let v26 : BitVec 32 := Scalar.muli v25 c1024_i32
  let v27 : BitVec 32 := Scalar.addi v26 c0_i32_23
  ![0, v27.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_57 : BitVec 32 := 0#32
  let c0_i32_58 : BitVec 32 := 0#32
  ![v2.toNat, 0, 0]
def k0_dev8 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_51 : BitVec 32 := 7#32
  let v60 : BitVec 32 := Scalar.xori v2 c7_i32_51
  let c1_i32_55 : BitVec 32 := 1#32
  let v61 : BitVec 32 := Scalar.muli v60 c1_i32_55
  let v62 : BitVec 32 := Scalar.addi c0_i32_56 v61
  v62.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_90 : BitVec 32 := 0#32
  let c512_i32_91 : BitVec 32 := 512#32
  ![v2.toNat, 0, 512]
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_84 : BitVec 32 := 7#32
  let v98 : BitVec 32 := Scalar.xori v2 c7_i32_84
  let c1_i32_88 : BitVec 32 := 1#32
  let v99 : BitVec 32 := Scalar.muli v98 c1_i32_88
  let v100 : BitVec 32 := Scalar.addi c0_i32_89 v99
  v100.toNat
def k0_dev10 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_119 : BitVec 32 := 4#32
  let v136 : BitVec 32 := Scalar.xori v2 c4_i32_119
  let c1_i32_123 : BitVec 32 := 1#32
  let v137 : BitVec 32 := Scalar.muli v136 c1_i32_123
  let v138 : BitVec 32 := Scalar.addi c0_i32_124 v137
  v138.toNat
def k0_dev11 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_154 : BitVec 32 := 4#32
  let v174 : BitVec 32 := Scalar.xori v2 c4_i32_154
  let c1_i32_158 : BitVec 32 := 1#32
  let v175 : BitVec 32 := Scalar.muli v174 c1_i32_158
  let v176 : BitVec 32 := Scalar.addi c0_i32_159 v175
  v176.toNat
def k0_dev12 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_188 : BitVec 32 := 6#32
  let v212 : BitVec 32 := Scalar.xori v2 c6_i32_188
  let c1_i32_192 : BitVec 32 := 1#32
  let v213 : BitVec 32 := Scalar.muli v212 c1_i32_192
  let v214 : BitVec 32 := Scalar.addi c0_i32_193 v213
  v214.toNat
def k0_dev13 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_223 : BitVec 32 := 6#32
  let v250 : BitVec 32 := Scalar.xori v2 c6_i32_223
  let c1_i32_227 : BitVec 32 := 1#32
  let v251 : BitVec 32 := Scalar.muli v250 c1_i32_227
  let v252 : BitVec 32 := Scalar.addi c0_i32_228 v251
  v252.toNat
def k0_dev14 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_257 : BitVec 32 := 5#32
  let v288 : BitVec 32 := Scalar.xori v2 c5_i32_257
  let c1_i32_261 : BitVec 32 := 1#32
  let v289 : BitVec 32 := Scalar.muli v288 c1_i32_261
  let v290 : BitVec 32 := Scalar.addi c0_i32_262 v289
  v290.toNat
def k0_dev15 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_292 : BitVec 32 := 5#32
  let v326 : BitVec 32 := Scalar.xori v2 c5_i32_292
  let c1_i32_296 : BitVec 32 := 1#32
  let v327 : BitVec 32 := Scalar.muli v326 c1_i32_296
  let v328 : BitVec 32 := Scalar.addi c0_i32_297 v327
  v328.toNat
def k0_dev16 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_326 : BitVec 32 := 3#32
  let v364 : BitVec 32 := Scalar.xori v2 c3_i32_326
  let c1_i32_330 : BitVec 32 := 1#32
  let v365 : BitVec 32 := Scalar.muli v364 c1_i32_330
  let v366 : BitVec 32 := Scalar.addi c0_i32_331 v365
  v366.toNat
def k0_dev17 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_361 : BitVec 32 := 3#32
  let v402 : BitVec 32 := Scalar.xori v2 c3_i32_361
  let c1_i32_365 : BitVec 32 := 1#32
  let v403 : BitVec 32 := Scalar.muli v402 c1_i32_365
  let v404 : BitVec 32 := Scalar.addi c0_i32_366 v403
  v404.toNat
def k0_dev18 (d0 : Dev nD) : Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_395 : BitVec 32 := 2#32
  let v440 : BitVec 32 := Scalar.xori v2 c2_i32_395
  let c1_i32_399 : BitVec 32 := 1#32
  let v441 : BitVec 32 := Scalar.muli v440 c1_i32_399
  let v442 : BitVec 32 := Scalar.addi c0_i32_400 v441
  v442.toNat
def k0_dev19 (d0 : Dev nD) : Nat :=
  let c0_i32_435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_430 : BitVec 32 := 2#32
  let v478 : BitVec 32 := Scalar.xori v2 c2_i32_430
  let c1_i32_434 : BitVec 32 := 1#32
  let v479 : BitVec 32 := Scalar.muli v478 c1_i32_434
  let v480 : BitVec 32 := Scalar.addi c0_i32_435 v479
  v480.toNat
def k0_dev20 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v516 : BitVec 32 := Scalar.xori v2 c1_i32_464
  let c1_i32_468 : BitVec 32 := 1#32
  let v517 : BitVec 32 := Scalar.muli v516 c1_i32_468
  let v518 : BitVec 32 := Scalar.addi c0_i32_469 v517
  v518.toNat
def k0_off5 (d0 : Dev nD) (c0_i32_475 : BitVec 32) : Fin 2 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_474 : BitVec 32 := 1024#32
  let v527 : BitVec 32 := Scalar.muli v2 c1024_i32_474
  let v528 : BitVec 32 := Scalar.addi v527 c0_i32_475
  ![0, v528.toNat]
def k0_dev21 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_498 : BitVec 32 := 1#32
  let v553 : BitVec 32 := Scalar.xori v2 c1_i32_498
  let c1_i32_502 : BitVec 32 := 1#32
  let v554 : BitVec 32 := Scalar.muli v553 c1_i32_502
  let v555 : BitVec 32 := Scalar.addi c0_i32_503 v554
  v555.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_528 : BitVec 32 := 512#32
  let v585 : BitVec 32 := Scalar.muli v2 c512_i32_528
  let c0_i32_534 : BitVec 32 := 0#32
  ![v585.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_550 : BitVec 32 := 512#32
  let v608 : BitVec 32 := Scalar.muli v2 c512_i32_550
  let c512_i32_556 : BitVec 32 := 512#32
  ![v608.toNat, 512]
def k0_off8 (d0 : Dev nD) (c7_i32_559 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v617 : BitVec 32 := Scalar.xori v2 c7_i32_559
  ![v617.toNat]
def k0_off9 (d0 : Dev nD) (c7_i32_559 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v617 : BitVec 32 := Scalar.xori v2 c7_i32_559
  let c0_i32_565 : BitVec 32 := 0#32
  let c0_i32_566 : BitVec 32 := 0#32
  ![v617.toNat, 0, 0]
def k0_off10 (d0 : Dev nD) (c7_i32_559 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v617 : BitVec 32 := Scalar.xori v2 c7_i32_559
  let v627 : Index := Scalar.indexCast v617
  let c0_570 : Index := 0#32
  let c0_571 : Index := 0#32
  ![v627.toNat, 0, 0]
def k0_off11 (d0 : Dev nD) (c7_i32_559 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v617 : BitVec 32 := Scalar.xori v2 c7_i32_559
  let c512_i32_569 : BitVec 32 := 512#32
  let v626 : BitVec 32 := Scalar.muli v617 c512_i32_569
  let c0_i32_582 : BitVec 32 := 0#32
  ![v626.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Steps.lean ====
/-
# The kernel's body as a sequence of steps

The printed body of the kernel unrolls sixteen products, fourteen remote copies and seven drains. Here it is written
once per KIND of step, at a symbolic device `c`, a symbolic peer `k : Fin 7` and a symbolic half `h : Fin 2`, and
`body_eq` says that the printed body is the sequence of these steps. Every later module reasons about the steps.
-/
module

public import proofs.«01_k».proof.Proof.Gen.KernelIdeal.Skeleton
public import proofs.«01_k».proof.Proof.Gen.KernelIdeal.Launch

@[expose] public section

set_option synthInstance.maxSize 4096

noncomputable section

namespace Cert.SiluA2A

open Cert.KernelIdeal Cert.KernelIdeal.Gen
open Idealize.ShloMosaic Idealize.ShloMosaic.TcCoe Idealize.SL.Sem

variable {F : FTy → Type} [FloatOps F]

/-- Programs of the kernel's core. -/
abbrev P (F : FTy → Type) [FloatOps F] : Type 1 := Prog (TpuEff nD τ sig (Elt F) Λ₀ .tc) PUnit

/-! ## The words the steps differ by -/

/-- Step `k` exchanges with the device whose number is the own one xor `xw k + 1`. -/
abbrev xw : Fin 7 → Fin 7 := ![6, 3, 5, 4, 2, 1, 0]
/-- That word. -/
abbrev xword (k : Fin 7) : BitVec 32 := BitVec.ofNat 32 (1 + (xw k).val)
/-- The first column of half `h`. -/
abbrev hword (h : Fin 2) : BitVec 32 := BitVec.ofNat 32 (512 * h.val)

/-- The number of the device step `k` exchanges with, as the kernel computes it. -/
def peerN (k : Fin 7) (c : Dev nD) : Nat :=
  (Scalar.addi 0#32 (Scalar.muli (Scalar.xori (Scalar.remsi (Scalar.divsi (Dev.word c) 1#32) 8#32) (xword k)) 1#32)).toNat
theorem peerN_lt : ∀ (k : Fin 7) (c : Dev nD), peerN k c < nD := by decide
/-- The device step `k` exchanges with. -/
def peer (k : Fin 7) (c : Dev nD) : Dev nD := ⟨peerN k c, peerN_lt k c⟩

/-! ## The buffers and their pieces -/

abbrev xM : Memref sig .tc .vmem S512x4096 .f32 := Memref.whole cc0_stg0_0
abbrev wM : Memref sig .tc .hbm S4096x8192 .f32 := Memref.whole main_arg1
abbrev oM : Memref sig .tc .hbm S4096x1024 .f32 := Memref.whole main_v1
abbrev bM : Memref sig .tc .vmem S2x4096x512 .f32 := Memref.whole cc0_scratch0
abbrev yM : Memref sig .tc .vmem S7x512x1024 .bf16 := Memref.whole cc0_scratch1
abbrev rM : Memref sig .tc .vmem S8x512x1024 .bf16 := Memref.whole cc0_scratch2
abbrev sM : Memref sig .tc .vmem S2x512x1024 .f32 := Memref.whole cc0_scratch3

def wOff (c : Dev nD) (h : Fin 2) : Option (Fin 7) → Fin 2 → Nat
  | some k => k0_off1 c (xword k) (hword h)
  | none => k0_off5 c (hword h)
theorem wOff_inb (c : Dev nD) (h : Fin 2) : ∀ t, ∀ a, wOff c h t a + S4096x512.size a ≤ S4096x8192.size a
  | some k => k0_off1_inb c (xw k) h
  | none => k0_off5_inb c h
/-- The columns of the weight that target `t` (`none`: the device itself) receives in half `h`. -/
def wSrc (c : Dev nD) (t : Option (Fin 7)) (h : Fin 2) : Memref sig .tc .hbm S4096x512 .f32 :=
  wM.slice (Rect.unit (s := S4096x8192) (wOff c h t) S4096x512.size (wOff_inb c h t)) (fun _ => rfl)

theorem wRect_inb : ∀ h : Fin 2, ∀ a, (![h.val, 0, 0] : Fin 3 → Nat) a + S1x4096x512.size a ≤ S2x4096x512.size a := by decide
/-- Weight buffer `h`. -/
abbrev wRect (h : Fin 2) : Rect S2x4096x512 := Rect.unit (s := S2x4096x512) ![h.val, 0, 0] S1x4096x512.size (wRect_inb h)
def wBuf (h : Fin 2) : Memref sig .tc .vmem S4096x512 .f32 :=
  (bM.slice (wRect h) (fun _ => rfl)).squeeze S4096x512 squeezes_S1x4096x512_S4096x512

theorem yRect_inb : ∀ (k : Fin 7) (h : Fin 2), ∀ a, (![k.val, 0, 512 * h.val] : Fin 3 → Nat) a + S1x512x512.size a ≤ S7x512x1024.size a := by decide
/-- Half `h` of send buffer `k`. -/
abbrev yRect (k : Fin 7) (h : Fin 2) : Rect S7x512x1024 := Rect.unit (s := S7x512x1024) ![k.val, 0, 512 * h.val] S1x512x512.size (yRect_inb k h)
def yHalf (k : Fin 7) (h : Fin 2) : Memref sig .tc .vmem S512x512 .bf16 :=
  (yM.slice (yRect k h) (fun _ => rfl)).squeeze S512x512 squeezes_S1x512x512_S512x512

theorem yRect_packed (k : Fin 7) (h : Fin 2) : (yRect k h).PackedRows (EltTy.packing .bf16) := by
  fin_cases k <;> fin_cases h
  · exact packedbf16_S7x512x1024_S1x512x512_0_0_0
  · exact packedbf16_S7x512x1024_S1x512x512_0_0_512
  · exact packedbf16_S7x512x1024_S1x512x512_1_0_0
  · exact packedbf16_S7x512x1024_S1x512x512_1_0_512
  · exact packedbf16_S7x512x1024_S1x512x512_2_0_0
  · exact packedbf16_S7x512x1024_S1x512x512_2_0_512
  · exact packedbf16_S7x512x1024_S1x512x512_3_0_0
  · exact packedbf16_S7x512x1024_S1x512x512_3_0_512
  · exact packedbf16_S7x512x1024_S1x512x512_4_0_0
  · exact packedbf16_S7x512x1024_S1x512x512_4_0_512
  · exact packedbf16_S7x512x1024_S1x512x512_5_0_0
  · exact packedbf16_S7x512x1024_S1x512x512_5_0_512
  · exact packedbf16_S7x512x1024_S1x512x512_6_0_0
  · exact packedbf16_S7x512x1024_S1x512x512_6_0_512
theorem yRect_words (k : Fin 7) (h : Fin 2) : (yRect k h).WholeWords (EltTy.packing .bf16) := by
  fin_cases k <;> fin_cases h
  · exact wordsbf16_S7x512x1024_S1x512x512_0_0_0
  · exact wordsbf16_S7x512x1024_S1x512x512_0_0_512
  · exact wordsbf16_S7x512x1024_S1x512x512_1_0_0
  · exact wordsbf16_S7x512x1024_S1x512x512_1_0_512
  · exact wordsbf16_S7x512x1024_S1x512x512_2_0_0
  · exact wordsbf16_S7x512x1024_S1x512x512_2_0_512
  · exact wordsbf16_S7x512x1024_S1x512x512_3_0_0
  · exact wordsbf16_S7x512x1024_S1x512x512_3_0_512
  · exact wordsbf16_S7x512x1024_S1x512x512_4_0_0
  · exact wordsbf16_S7x512x1024_S1x512x512_4_0_512
  · exact wordsbf16_S7x512x1024_S1x512x512_5_0_0
  · exact wordsbf16_S7x512x1024_S1x512x512_5_0_512
  · exact wordsbf16_S7x512x1024_S1x512x512_6_0_0
  · exact wordsbf16_S7x512x1024_S1x512x512_6_0_512
theorem yHalf_words (k : Fin 7) (h : Fin 2) : (yHalf k h).view.WordExact :=
  ((Memref.isWhole_whole cc0_scratch1).wordExact_slice rfl _ (yRect_words k h)).reshape _ _

def rOff (c : Dev nD) : Fin 2 → Fin 3 → Nat
  | 0 => k0_off3 c
  | 1 => k0_off4 c
theorem rOff_inb (c : Dev nD) : ∀ h, ∀ a, rOff c h a + S1x512x512.size a ≤ S8x512x1024.size a
  | 0 => k0_off3_inb c
  | 1 => k0_off4_inb c
/-- Half `h` of the landing buffer for what device `c` sends — named by the sender, the same on every device. -/
def rHalf (c : Dev nD) (h : Fin 2) : Memref sig .tc .vmem S512x512 .bf16 :=
  (rM.slice (Rect.unit (s := S8x512x1024) (rOff c h) S1x512x512.size (rOff_inb c h)) (fun _ => rfl)).squeeze S512x512 squeezes_S1x512x512_S512x512
theorem rHalf_words (c : Dev nD) (h : Fin 2) : (rHalf c h).view.WordExact := match h with
  | 0 => ((Memref.isWhole_whole cc0_scratch2).wordExact_slice rfl _ (k0_off3_wordsbf16 c)).reshape _ _
  | 1 => ((Memref.isWhole_whole cc0_scratch2).wordExact_slice rfl _ (k0_off4_wordsbf16 c)).reshape _ _

/-- The landing buffer drain `k` reads, whole. -/
def rBlk (c : Dev nD) (k : Fin 7) : Memref sig .tc .vmem S512x1024 .bf16 :=
  (rM.slice (Rect.unit (s := S8x512x1024) (k0_off9 c (xword k)) S1x512x1024.size (k0_off9_inb c (xw k))) (fun _ => rfl)).squeeze S512x1024 squeezes_S1x512x1024_S512x1024
theorem rBlk_words (c : Dev nD) (k : Fin 7) : (rBlk c k).view.WordExact :=
  ((Memref.isWhole_whole cc0_scratch2).wordExact_slice rfl _ (k0_off9_wordsbf16 c (xw k))).reshape _ _
abbrev rRect (c : Dev nD) (k : Fin 7) : Rect S8x512x1024 := Rect.unit (s := S8x512x1024) (k0_off10 c (xword k)) S1x512x1024.size (k0_off10_inb c (xw k))
/-- Send buffer 0, whole: what the wait of a drain names as its source. -/
def yBlk0 : Memref sig .tc .vmem S512x1024 .bf16 :=
  (yM.slice (Rect.unit (s := S7x512x1024) ![0, 0, 0] S1x512x1024.size inb_S7x512x1024_S1x512x1024_0_0_0) (fun _ => rfl)).squeeze S512x1024 squeezes_S1x512x1024_S512x1024
theorem yBlk0_words : yBlk0.view.WordExact :=
  ((Memref.isWhole_whole cc0_scratch1).wordExact_slice rfl _ wordsbf16_S7x512x1024_S1x512x1024_0_0_0).reshape _ _

theorem sHalfRect_inb : ∀ h : Fin 2, ∀ a, (![h.val, 0, 512 * h.val] : Fin 3 → Nat) a + S1x512x512.size a ≤ S2x512x1024.size a := by decide
/-- Columns of half `h` of stage buffer `h`. -/
abbrev sHalfRect (h : Fin 2) : Rect S2x512x1024 := Rect.unit (s := S2x512x1024) ![h.val, 0, 512 * h.val] S1x512x512.size (sHalfRect_inb h)
def sHalf (h : Fin 2) : Memref sig .tc .vmem S512x512 .f32 :=
  (sM.slice (sHalfRect h) (fun _ => rfl)).squeeze S512x512 squeezes_S1x512x512_S512x512

theorem sRect_inb : ∀ h : Fin 2, ∀ a, (![h.val, 0, 0] : Fin 3 → Nat) a + S1x512x1024.size a ≤ S2x512x1024.size a := by decide
/-- Stage buffer `h`, whole. -/
abbrev sRect (h : Fin 2) : Rect S2x512x1024 := Rect.unit (s := S2x512x1024) ![h.val, 0, 0] S1x512x1024.size (sRect_inb h)
def sBuf (h : Fin 2) : Memref sig .tc .vmem S512x1024 .f32 :=
  (sM.slice (sRect h) (fun _ => rfl)).squeeze S512x1024 squeezes_S1x512x1024_S512x1024

def oOff (c : Dev nD) : Fin 2 → Fin 2 → Nat
  | 0 => k0_off6 c
  | 1 => k0_off7 c
theorem oOff_inb (c : Dev nD) : ∀ h, ∀ a, oOff c h a + S512x512.size a ≤ S4096x1024.size a
  | 0 => k0_off6_inb c
  | 1 => k0_off7_inb c
/-- Half `h` of the device's own rows of the result. -/
def oOwn (c : Dev nD) (h : Fin 2) : Memref sig .tc .hbm S512x512 .f32 :=
  oM.slice (Rect.unit (s := S4096x1024) (oOff c h) S512x512.size (oOff_inb c h)) (fun _ => rfl)
/-- The rows of the result that drain `k` fills. -/
def oBlk (c : Dev nD) (k : Fin 7) : Memref sig .tc .hbm S512x1024 .f32 :=
  oM.slice (Rect.unit (s := S4096x1024) (k0_off11 c (xword k)) S512x1024.size (k0_off11_inb c (xw k))) (fun _ => rfl)

/-! ## The semaphores -/

abbrev barS : Sem sig := (SemArray.scalar (sig.barrier 0 rfl) : Sems sig S_).sem
theorem sem2_inb : ∀ h : Fin 2, ∀ a, (![h.val] : Fin 1 → Nat) a + S1.size a ≤ S2.size a := by decide
/-- The semaphore of the copies into weight buffer `h`. -/
def wSem (h : Fin 2) : DmaSem sig := ((cc0_scratch4.slice (Rect.unit (s := S2) ![h.val] S1.size (sem2_inb h))).squeeze S_ squeezes_S1_S_).sem
/-- The semaphore of the copies out of stage buffer `h`. -/
def sSem (h : Fin 2) : DmaSem sig := ((cc0_scratch7.slice (Rect.unit (s := S2) ![h.val] S1.size (sem2_inb h))).squeeze S_ squeezes_S1_S_).sem
theorem sem72_inb : ∀ (k : Fin 7) (h : Fin 2), ∀ a, (![k.val, h.val] : Fin 2 → Nat) a + S1x1.size a ≤ S7x2.size a := by decide
/-- The send semaphore of step `k`, half `h`. -/
def sendSem (k : Fin 7) (h : Fin 2) : DmaSem sig :=
  ((cc0_scratch5.slice (Rect.unit (s := S7x2) ![k.val, h.val] S1x1.size (sem72_inb k h))).squeeze S_ squeezes_S1x1_S_).sem
/-- The receive semaphore counting what device `c` sends — named by the sender, the same on every device. -/
def recvSem (c : Dev nD) : DmaSem sig :=
  ((cc0_scratch6.slice (Rect.unit (s := S8) (k0_off2 c) S1.size (k0_off2_inb c))).squeeze S_ squeezes_S1_S_).sem
/-- The receive semaphore drain `k` waits on. -/
def drainSem (c : Dev nD) (k : Fin 7) : DmaSem sig :=
  ((cc0_scratch6.slice (Rect.unit (s := S8) (k0_off8 c (xword k)) S1.size (k0_off8_inb c (xw k)))).squeeze S_ squeezes_S1_S_).sem

/-! ## The values computed -/

/-- The product of the device's rows with a block of the weight. -/
def prod (x : Vec F S512x4096 .f32) (w : Vec F S1x4096x512 .f32) : FVec F S512x512 .f32 :=
  matmul dot_S512x4096_S4096x512_S512x512_1_0_0_1_n_n none (shapeCast S512x4096 x shapeCasts_S512x4096_S512x4096)
    (shapeCast S4096x512 w shapeCasts_S1x4096x512_S4096x512) (constant S512x512 .f32 0x00000000#32)
/-- The product times its logistic. -/
def silu (x : Vec F S512x4096 .f32) (w : Vec F S1x4096x512 .f32) : FVec F S512x512 .f32 := mulf (prod x w) (logistic (prod x w))
/-- What is sent: rounded to bfloat16. -/
def sent (x : Vec F S512x4096 .f32) (w : Vec F S1x4096x512 .f32) : FVec F S512x512 .bf16 := truncf .bf16 (silu x w) bitsLt_bf16_f32
def ySt (x : Vec F S512x4096 .f32) (w : Vec F S1x4096x512 .f32) : FVec F S1x512x512 .bf16 := shapeCast S1x512x512 (sent x w) shapeCasts_S512x512_S1x512x512
def oSt (x : Vec F S512x4096 .f32) (w : Vec F S1x4096x512 .f32) : FVec F S1x512x512 .f32 := shapeCast S1x512x512 (silu x w) shapeCasts_S512x512_S1x512x512
/-- What a drain stages: the landed block widened. -/
def dSt (v : Vec F S1x512x1024 .bf16) : FVec F S1x512x1024 .f32 :=
  shapeCast S1x512x1024 (extf .f32 (shapeCast S512x1024 v shapeCasts_S1x512x1024_S512x1024) bitsLt_bf16_f32) shapeCasts_S512x1024_S1x512x1024

/-! ## The steps -/

/-- Tell the peer of step `k` that this device has entered. -/
def stSignal (c : Dev nD) (k : Fin 7) (K : P F) : P F := .op (.semSignal (peer k c, .tc) barS (1#32 : BitVec 32).toInt) fun _ => K
/-- Wait until all seven have. -/
def stBarrier (K : P F) : P F := .op (.semWait barS (7#32 : BitVec 32).toInt) fun _ => K
/-- Start the copy of target `t`'s columns, half `h`, into weight buffer `h`. -/
def stCopyW (c : Dev nD) (t : Option (Fin 7)) (h : Fin 2) (K : P F) : P F :=
  .op (.enqueueDma (wSrc c t h) (.here (wBuf h)) (.dma (wSem h)) (View.wordExact_bits rfl) ((View.wordExact_bits rfl).reshape _ _) ⟨Or.inl rfl, trivial⟩) fun _ => K
/-- Wait for it. -/
def stWaitW (c : Dev nD) (t : Option (Fin 7)) (h : Fin 2) (K : P F) : P F :=
  .op (.waitDma2 (wSem h) (wSrc c t h) (wBuf h) (View.wordExact_bits rfl) ((View.wordExact_bits rfl).reshape _ _)) fun _ => K
/-- Load the device's rows and weight buffer `h`. -/
def stLoad (h : Fin 2) (K : Vec F S512x4096 .f32 → Vec F S1x4096x512 .f32 → P F) : P F :=
  .op (.load xM (Rect.unit (s := S512x4096) ![0, 0] S512x4096.size inb_S512x4096_S512x4096_0_0).toLoadRect (View.loadsAt_vmem h_S512x4096)) fun x =>
  .op (.load bM (wRect h).toLoadRect (View.loadsAt_vmem h_S1x4096x512)) fun w => K x w
/-- Store a computed block into half `h` of send buffer `k`. -/
def stPut (k : Fin 7) (h : Fin 2) (v : FVec F S1x512x512 .bf16) (K : P F) : P F :=
  .op (.load yM (yRect k h).toLoadRect (View.loadsAt_vmem h_S1x512x512)) fun _ =>
  .op (.store yM (yRect k h) v Finset.univ
    (View.stores_vmem h_S1x512x512 ((Memref.isWhole_whole cc0_scratch1).storeExact_slice rfl _ (yRect_packed k h)) (fun _ => rfl)) (.inl rfl)) fun _ => K
/-- Send it to the peer of step `k`. -/
def stSend (c : Dev nD) (k : Fin 7) (h : Fin 2) (K : P F) : P F :=
  .op (.enqueueDma (yHalf k h) (.remote (Dev.tc (peer k c)) (rHalf c h) (.dma (sendSem k h)) (by fin_cases h <;> rfl)) (.dma (recvSem c)) (yHalf_words k h) (rHalf_words c h)
    ⟨⟨rfl, Or.inl rfl⟩, trivial⟩) fun _ => K
/-- Store the device's own block into stage buffer `h` and start the copy to the result. -/
def stOwn (c : Dev nD) (h : Fin 2) (v : FVec F S1x512x512 .f32) (K : P F) : P F :=
  .op (.load sM (sHalfRect h).toLoadRect (View.loadsAt_vmem h_S1x512x512)) fun _ =>
  .op (.store sM (sHalfRect h) v Finset.univ (View.stores_vmem_bits_univ h_S1x512x512 rfl) (.inl rfl)) fun _ =>
  .op (.enqueueDma (sHalf h) (.here (oOwn c h)) (.dma (sSem h)) ((View.wordExact_bits rfl).reshape _ _) (View.wordExact_bits rfl) ⟨Or.inl rfl, trivial⟩) fun _ => K

/-- Step `k`, half 0 and half 1: the copy of the next half's weight columns is started before the wait for this one's. -/
def stPeer (c : Dev nD) (k : Fin 7) (next : Option (Fin 7)) (K : P F) : P F :=
  stCopyW c (some k) 1 <| stWaitW c (some k) 0 <| stLoad 0 fun x w => stPut k 0 (ySt x w) <| stSend c k 0 <|
  stCopyW c next 0 <| stWaitW c (some k) 1 <| stLoad 1 fun x w => stPut k 1 (ySt x w) <| stSend c k 1 K
/-- The device's own rows. -/
def stSelf (c : Dev nD) (K : P F) : P F :=
  stCopyW c none 1 <| stWaitW c none 0 <| stLoad 0 fun x w => stOwn c 0 (oSt x w) <|
  stWaitW c none 1 <| stLoad 1 fun x w => stOwn c 1 (oSt x w) K

/-- The copy out of a stage buffer that is under way: of the device's own half `h` (out of buffer `h`), or of drain `k`
    out of buffer `s`. -/
inductive Out where
  | own (h : Fin 2)
  | dr (k : Fin 7) (s : Fin 2)

/-- The stage buffer it leaves. -/
def Out.slot : Out → Fin 2
  | .own h => h
  | .dr _ s => s

/-- Wait for it. -/
def stOutWait (c : Dev nD) (p : Out) (K : P F) : P F := match p with
  | .own h => .op (.waitDma2 (sSem h) (sHalf h) (oOwn c h) ((View.wordExact_bits rfl).reshape _ _) (View.wordExact_bits rfl)) fun _ => K
  | .dr k s => .op (.waitDma2 (sSem s) (sBuf s) (oBlk c k) ((View.wordExact_bits rfl).reshape _ _) (View.wordExact_bits rfl)) fun _ => K

/-- Drain `k`: wait for both halves of the peer's block, widen it into the stage buffer that `p` leaves (waiting for `p`)
    and start the copy to the result. -/
def stDrain (c : Dev nD) (k : Fin 7) (p : Out) (K : P F) : P F :=
  .op (.waitDma2 (drainSem c k) yBlk0 (rBlk c k) yBlk0_words (rBlk_words c k)) fun _ =>
  .op (.load rM (rRect c k).toLoadRect (View.loadsAt_vmem h_S1x512x1024)) fun v =>
  stOutWait c p <|
  .op (.load sM (sRect p.slot).toLoadRect (View.loadsAt_vmem h_S1x512x1024)) fun _ =>
  .op (.store sM (sRect p.slot) (dSt v) Finset.univ (View.stores_vmem_bits_univ h_S1x512x1024 rfl) (.inl rfl)) fun _ =>
  .op (.enqueueDma (sBuf p.slot) (.here (oBlk c k)) (.dma (sSem p.slot)) ((View.wordExact_bits rfl).reshape _ _) (View.wordExact_bits rfl) ⟨Or.inl rfl, trivial⟩) fun _ => K

/-- Wait until the copy out of half `h` of send buffer `k` has left. -/
def stSent (c : Dev nD) (k : Fin 7) (h : Fin 2) (K : P F) : P F :=
  .op (.waitDma2 (sendSem k h) (rHalf c h) (yHalf k h) (rHalf_words c h) (yHalf_words k h)) fun _ => K

/-! ## The whole body -/

def signals (c : Dev nD) : List (Fin 7) → P F → P F
  | [], K => K
  | k :: ks, K => stSignal c k (signals c ks K)

/-- The target whose columns are fetched while the last of a list's first entry's products run. -/
def nextOf : List (Fin 7) → Option (Fin 7)
  | [] => none
  | k :: _ => some k

def sends (c : Dev nD) : List (Fin 7) → P F → P F
  | [], K => K
  | k :: ks, K => stPeer c k (nextOf ks) (sends c ks K)

/-- The drains, `p` and `q` the copies out of the two stage buffers under way, `p`'s the one to use next. -/
def drains (c : Dev nD) : List (Fin 7) → Out → Out → (Out → Out → P F) → P F
  | [], p, q, K => K p q
  | k :: ks, p, q, K => stDrain c k p (drains c ks q (.dr k p.slot) K)

def sents (c : Dev nD) : List (Fin 7) → P F
  | [] => .ret ⟨⟩
  | k :: ks => stSent c k 0 (stSent c k 1 (sents c ks))

/-- The seven steps in order. -/
abbrev steps : List (Fin 7) := [0, 1, 2, 3, 4, 5, 6]

/-- The body of device `c`. -/
def bodyOf (c : Dev nD) : P F :=
  signals c steps <| stBarrier <| stCopyW c (some 0) 0 <| sends c steps <| stSelf c <|
  drains c steps (.own 0) (.own 1) fun p q => stOutWait c q <| stOutWait c p <| sents c steps

set_option maxRecDepth 65536 in
set_option maxHeartbeats 4000000 in
/-- The printed body is these steps. -/
theorem body_eq : cc0_body (F := F) xM (Memref.isWhole_whole _) wM (Memref.isWhole_whole _) oM (Memref.isWhole_whole _)
      bM (Memref.isWhole_whole _) yM (Memref.isWhole_whole _) rM (Memref.isWhole_whole _) sM (Memref.isWhole_whole _)
      cc0_scratch4 cc0_scratch5 cc0_scratch6 cc0_scratch7
    = .op .deviceId fun c => bodyOf c := rfl

end Cert.SiluA2A

end
-- ==== Proof.Pieces.lean ====
/-
# Where the pieces of the buffers lie

Every piece a step moves is a rectangle at an offset the kernel computes. This module gives the offsets in closed form,
says which element of its buffer each index of a piece is (`emb_…`), and which elements the piece covers (`set_…`).
-/
module

public import proofs.«01_k».proof.Proof.Steps
public import Idealize.ShloMosaic.Lib.Pointwise.Index

@[expose] public section

noncomputable section

namespace Cert.SiluA2A

open Cert.KernelIdeal Cert.KernelIdeal.Gen
open Idealize.ShloMosaic Idealize.ShloMosaic.TcCoe Idealize.SL.Sem

/-! ## The peers -/

/-- The exchange of step `k` is symmetric. -/
theorem peer_peer : ∀ (k : Fin 7) (c : Dev nD), peer k (peer k c) = c := by decide +kernel
theorem peer_ne : ∀ (k : Fin 7) (c : Dev nD), peer k c ≠ c := by decide +kernel
theorem peer_inj : ∀ (c : Dev nD) (k k' : Fin 7), peer k c = peer k' c → k = k' := by decide +kernel
theorem peer_surj : ∀ (c d : Dev nD), d ≠ c → ∃ k, peer k c = d := by decide +kernel

/-! ## Offsets in closed form -/

theorem off1_eq : ∀ (c : Dev nD) (k : Fin 7) (h : Fin 2), k0_off1 c (xword k) (hword h) = ![0, 1024 * (peer k c).val + 512 * h.val] := by decide +kernel
theorem off8_eq : ∀ (c : Dev nD) (k : Fin 7), k0_off8 c (xword k) = ![(peer k c).val] := by decide +kernel
theorem off9_eq : ∀ (c : Dev nD) (k : Fin 7), k0_off9 c (xword k) = ![(peer k c).val, 0, 0] := by decide +kernel
theorem off10_eq : ∀ (c : Dev nD) (k : Fin 7), k0_off10 c (xword k) = ![(peer k c).val, 0, 0] := by decide +kernel
theorem off11_eq : ∀ (c : Dev nD) (k : Fin 7), k0_off11 c (xword k) = ![512 * (peer k c).val, 0] := by decide +kernel

/-- The device whose block target `t` is. -/
def tgt (c : Dev nD) : Option (Fin 7) → Dev nD
  | some k => peer k c
  | none => c
theorem wOff_eq (c : Dev nD) (h : Fin 2) : ∀ t, wOff c h t = ![0, 1024 * (tgt c t).val + 512 * h.val]
  | some k => off1_eq c k h
  | none => k0_off5_eq c h
theorem rOff_eq (c : Dev nD) : ∀ h, rOff c h = ![c.val, 0, 512 * h.val]
  | 0 => k0_off3_eq c
  | 1 => k0_off4_eq c
theorem oOff_eq (c : Dev nD) : ∀ h, oOff c h = ![512 * c.val, 512 * h.val]
  | 0 => k0_off6_eq c
  | 1 => k0_off7_eq c

/-- The semaphore drain `k` waits on counts what the peer of step `k` sends. -/
theorem drainSem_eq : ∀ (c : Dev nD) (k : Fin 7), drainSem c k = recvSem (peer k c) := by decide +kernel

/-! ## Indices from numbers -/

/-- The rank-2 index with these coordinates. -/
abbrev at2 {n0 n1 : Nat} (a b : Nat) (ha : a < n0) (hb : b < n1) : (⟨2, ![n0, n1]⟩ : Shape).Idx := ix2 ⟨a, ha⟩ ⟨b, hb⟩
/-- The rank-3 index with these coordinates. -/
abbrev at3 {n0 n1 n2 : Nat} (a b c : Nat) (ha : a < n0) (hb : b < n1) (hc : c < n2) : (⟨3, ![n0, n1, n2]⟩ : Shape).Idx := ix3 ⟨a, ha⟩ ⟨b, hb⟩ ⟨c, hc⟩

theorem ext2 {n0 n1 : Nat} {i j : (⟨2, ![n0, n1]⟩ : Shape).Idx} (h0 : (i 0).val = (j 0).val) (h1 : (i 1).val = (j 1).val) : i = j := by
  funext a; match a with | ⟨0, _⟩ => exact Fin.ext h0 | ⟨1, _⟩ => exact Fin.ext h1
theorem ext3 {n0 n1 n2 : Nat} {i j : (⟨3, ![n0, n1, n2]⟩ : Shape).Idx} (h0 : (i 0).val = (j 0).val) (h1 : (i 1).val = (j 1).val)
    (h2 : (i 2).val = (j 2).val) : i = j := by
  funext a; match a with | ⟨0, _⟩ => exact Fin.ext h0 | ⟨1, _⟩ => exact Fin.ext h1 | ⟨2, _⟩ => exact Fin.ext h2

theorem lt2_0 {n0 n1 : Nat} (i : (⟨2, ![n0, n1]⟩ : Shape).Idx) : (i 0).val < n0 := (i 0).isLt
theorem lt2_1 {n0 n1 : Nat} (i : (⟨2, ![n0, n1]⟩ : Shape).Idx) : (i 1).val < n1 := (i 1).isLt
theorem lt3_0 {n0 n1 n2 : Nat} (i : (⟨3, ![n0, n1, n2]⟩ : Shape).Idx) : (i 0).val < n0 := (i 0).isLt
theorem lt3_1 {n0 n1 n2 : Nat} (i : (⟨3, ![n0, n1, n2]⟩ : Shape).Idx) : (i 1).val < n1 := (i 1).isLt
theorem lt3_2 {n0 n1 n2 : Nat} (i : (⟨3, ![n0, n1, n2]⟩ : Shape).Idx) : (i 2).val < n2 := (i 2).isLt

/-- Squeezing away a leading unit axis: index `j` of the squeezed shape is the index `(0, j)`. -/
theorem squeeze_idx {a b : Nat} (h : (⟨2, ![a, b]⟩ : Shape).numel = (⟨3, ![1, a, b]⟩ : Shape).numel) (j : (⟨2, ![a, b]⟩ : Shape).Idx) :
    Shape.reshapeEquiv h j = ix3 (n0 := 1) (n1 := a) (n2 := b) 0 (j 0) (j 1) := by
  rw [show Shape.reshapeEquiv h j = Fin.cons ⟨0, Nat.one_pos⟩ j from Shape.reshapeEquiv_cons_one h j]
  funext x; match x with | ⟨0, _⟩ => rfl | ⟨1, _⟩ => rfl | ⟨2, _⟩ => rfl

/-- A unit rectangle of rank 3 places `i` at its offset plus `i`. -/
theorem unit3_emb {n0 n1 n2 s0 s1 s2 : Nat} (o : Fin 3 → Nat) (hb) (i : (⟨3, ![s0, s1, s2]⟩ : Shape).Idx)
    (j : (⟨3, ![n0, n1, n2]⟩ : Shape).Idx) (h0 : (j 0).val = o 0 + (i 0).val) (h1 : (j 1).val = o 1 + (i 1).val) (h2 : (j 2).val = o 2 + (i 2).val) :
    (Rect.unit (s := ⟨3, ![n0, n1, n2]⟩) o (⟨3, ![s0, s1, s2]⟩ : Shape).size hb).emb i = j :=
  ext3 (by rw [h0]; show o 0 + 1 * _ = _; rw [Nat.one_mul]) (by rw [h1]; show o 1 + 1 * _ = _; rw [Nat.one_mul])
    (by rw [h2]; show o 2 + 1 * _ = _; rw [Nat.one_mul])
theorem unit2_emb {n0 n1 s0 s1 : Nat} (o : Fin 2 → Nat) (hb) (i : (⟨2, ![s0, s1]⟩ : Shape).Idx)
    (j : (⟨2, ![n0, n1]⟩ : Shape).Idx) (h0 : (j 0).val = o 0 + (i 0).val) (h1 : (j 1).val = o 1 + (i 1).val) :
    (Rect.unit (s := ⟨2, ![n0, n1]⟩) o (⟨2, ![s0, s1]⟩ : Shape).size hb).emb i = j :=
  ext2 (by rw [h0]; show o 0 + 1 * _ = _; rw [Nat.one_mul]) (by rw [h1]; show o 1 + 1 * _ = _; rw [Nat.one_mul])

/-! ## The elements of each piece -/

theorem emb_wRect (h : Fin 2) (i : S1x4096x512.Idx) : (wRect h).emb i = (ix3 h (i 1) (i 2) : S2x4096x512.Idx) :=
  unit3_emb _ _ i _ (by have := lt3_0 i; show h.val = h.val + (i 0).val; omega) (by show (i 1).val = 0 + _; omega) (by show (i 2).val = 0 + _; omega)
theorem emb_wBuf (h : Fin 2) (j : S4096x512.Idx) : (wBuf h).view.emb j = (ix3 h (j 0) (j 1) : S2x4096x512.Idx) := by
  show (wRect h).emb (Shape.reshapeEquiv _ j) = _
  rw [squeeze_idx, emb_wRect]; rfl

theorem yb (h : Fin 2) {n : Nat} (hn : n < 512) : 512 * h.val + n < 1024 := by have := h.isLt; omega
theorem wb (d : Dev nD) (h : Fin 2) {n : Nat} (hn : n < 512) : 1024 * d.val + 512 * h.val + n < 8192 := by
  have := h.isLt; have : d.val < 8 := d.isLt; omega
theorem ob (d : Dev nD) {n : Nat} (hn : n < 512) : 512 * d.val + n < 4096 := by have : d.val < 8 := d.isLt; omega

theorem emb_yRect (k : Fin 7) (h : Fin 2) (i : S1x512x512.Idx) :
    (yRect k h).emb i = (ix3 k (i 1) ⟨512 * h.val + (i 2).val, yb h (lt3_2 i)⟩ : S7x512x1024.Idx) :=
  unit3_emb _ _ i _ (by have := lt3_0 i; show k.val = k.val + (i 0).val; omega) (by show (i 1).val = 0 + _; omega) rfl
theorem emb_yHalf (k : Fin 7) (h : Fin 2) (j : S512x512.Idx) :
    (yHalf k h).view.emb j = (ix3 k (j 0) ⟨512 * h.val + (j 1).val, yb h (lt2_1 j)⟩ : S7x512x1024.Idx) := by
  show (yRect k h).emb (Shape.reshapeEquiv _ j) = _
  rw [squeeze_idx, emb_yRect]; rfl

theorem emb_rHalf (c : Dev nD) (h : Fin 2) (j : S512x512.Idx) :
    (rHalf c h).view.emb j = (ix3 c (j 0) ⟨512 * h.val + (j 1).val, yb h (lt2_1 j)⟩ : S8x512x1024.Idx) := by
  show (Rect.unit (s := S8x512x1024) (rOff c h) S1x512x512.size (rOff_inb c h)).emb (Shape.reshapeEquiv _ j) = _
  rw [squeeze_idx]
  exact unit3_emb _ _ _ _ (by rw [rOff_eq]; rfl) (by rw [rOff_eq]; exact (Nat.zero_add _).symm) (by rw [rOff_eq]; rfl)
theorem emb_rRect (c : Dev nD) (k : Fin 7) (i : S1x512x1024.Idx) : (rRect c k).emb i = (ix3 (peer k c) (i 1) (i 2) : S8x512x1024.Idx) :=
  unit3_emb _ _ i _ (by rw [off10_eq]; have := lt3_0 i; show (peer k c).val = (peer k c).val + (i 0).val; omega)
    (by rw [off10_eq]; exact (Nat.zero_add _).symm) (by rw [off10_eq]; exact (Nat.zero_add _).symm)

theorem emb_sHalfRect (h : Fin 2) (i : S1x512x512.Idx) :
    (sHalfRect h).emb i = (ix3 h (i 1) ⟨512 * h.val + (i 2).val, yb h (lt3_2 i)⟩ : S2x512x1024.Idx) :=
  unit3_emb _ _ i _ (by have := lt3_0 i; show h.val = h.val + (i 0).val; omega) (by show (i 1).val = 0 + _; omega) rfl
theorem emb_sHalf (h : Fin 2) (j : S512x512.Idx) :
    (sHalf h).view.emb j = (ix3 h (j 0) ⟨512 * h.val + (j 1).val, yb h (lt2_1 j)⟩ : S2x512x1024.Idx) := by
  show (sHalfRect h).emb (Shape.reshapeEquiv _ j) = _
  rw [squeeze_idx, emb_sHalfRect]; rfl
theorem emb_sRect (h : Fin 2) (i : S1x512x1024.Idx) : (sRect h).emb i = (ix3 h (i 1) (i 2) : S2x512x1024.Idx) :=
  unit3_emb _ _ i _ (by have := lt3_0 i; show h.val = h.val + (i 0).val; omega) (by show (i 1).val = 0 + _; omega) (by show (i 2).val = 0 + _; omega)
theorem emb_sBuf (h : Fin 2) (j : S512x1024.Idx) : (sBuf h).view.emb j = (ix3 h (j 0) (j 1) : S2x512x1024.Idx) := by
  show (sRect h).emb (Shape.reshapeEquiv _ j) = _
  rw [squeeze_idx, emb_sRect]; rfl

theorem emb_wSrc (c : Dev nD) (t : Option (Fin 7)) (h : Fin 2) (j : S4096x512.Idx) :
    (wSrc c t h).view.emb j = (ix2 (j 0) ⟨1024 * (tgt c t).val + 512 * h.val + (j 1).val, wb _ h (lt2_1 j)⟩ : S4096x8192.Idx) := by
  show (Rect.unit (s := S4096x8192) (wOff c h t) S4096x512.size (wOff_inb c h t)).emb j = _
  exact unit2_emb _ _ _ _ (by rw [wOff_eq]; exact (Nat.zero_add _).symm) (by rw [wOff_eq]; rfl)

theorem emb_oOwn (c : Dev nD) (h : Fin 2) (j : S512x512.Idx) :
    (oOwn c h).view.emb j = (ix2 ⟨512 * c.val + (j 0).val, ob c (lt2_0 j)⟩ ⟨512 * h.val + (j 1).val, yb h (lt2_1 j)⟩ : S4096x1024.Idx) := by
  show (Rect.unit (s := S4096x1024) (oOff c h) S512x512.size (oOff_inb c h)).emb j = _
  exact unit2_emb _ _ _ _ (by rw [oOff_eq]; rfl) (by rw [oOff_eq]; rfl)
theorem emb_oBlk (c : Dev nD) (k : Fin 7) (j : S512x1024.Idx) :
    (oBlk c k).view.emb j = (ix2 ⟨512 * (peer k c).val + (j 0).val, ob _ (lt2_0 j)⟩ (j 1) : S4096x1024.Idx) := by
  show (Rect.unit (s := S4096x1024) (k0_off11 c (xword k)) S512x1024.size (k0_off11_inb c (xw k))).emb j = _
  exact unit2_emb _ _ _ _ (by rw [off11_eq]; rfl) (by rw [off11_eq]; exact (Nat.zero_add _).symm)

/-! ## The pieces as sets of elements -/

/-- Weight buffer `h`. -/
def wS (h : Fin 2) : Finset S2x4096x512.Idx := Finset.univ.filter fun i => (i 0).val = h.val
/-- Half `h` of send buffer `k`. -/
def yS (k : Fin 7) (h : Fin 2) : Finset S7x512x1024.Idx := Finset.univ.filter fun i => (i 0).val = k.val ∧ (i 2).val / 512 = h.val
/-- Half `h` of the landing buffer for device `s`. -/
def rS (s : Dev nD) (h : Fin 2) : Finset S8x512x1024.Idx := Finset.univ.filter fun i => (i 0).val = s.val ∧ (i 2).val / 512 = h.val
/-- Stage buffer `h`. -/
def sS (h : Fin 2) : Finset S2x512x1024.Idx := Finset.univ.filter fun i => (i 0).val = h.val
/-- The rows of the result from device `s`, half `h` of the columns. -/
def oS (s : Dev nD) (h : Fin 2) : Finset S4096x1024.Idx := Finset.univ.filter fun i => (i 0).val / 512 = s.val ∧ (i 1).val / 512 = h.val

theorem mem_wS {h : Fin 2} {i : S2x4096x512.Idx} : i ∈ wS h ↔ (i 0).val = h.val := by unfold wS; simp only [Finset.mem_filter, Finset.mem_univ, true_and]
theorem mem_yS {k : Fin 7} {h : Fin 2} {i : S7x512x1024.Idx} : i ∈ yS k h ↔ (i 0).val = k.val ∧ (i 2).val / 512 = h.val := by
  unfold yS; simp only [Finset.mem_filter, Finset.mem_univ, true_and]
theorem mem_rS {s : Dev nD} {h : Fin 2} {i : S8x512x1024.Idx} : i ∈ rS s h ↔ (i 0).val = s.val ∧ (i 2).val / 512 = h.val := by
  unfold rS; simp only [Finset.mem_filter, Finset.mem_univ, true_and]
theorem mem_sS {h : Fin 2} {i : S2x512x1024.Idx} : i ∈ sS h ↔ (i 0).val = h.val := by unfold sS; simp only [Finset.mem_filter, Finset.mem_univ, true_and]
theorem mem_oS {s : Dev nD} {h : Fin 2} {i : S4096x1024.Idx} : i ∈ oS s h ↔ (i 0).val / 512 = s.val ∧ (i 1).val / 512 = h.val := by
  unfold oS; simp only [Finset.mem_filter, Finset.mem_univ, true_and]

/-- A map's image of everything is `S` when it lands in `S` and reaches all of it. -/
theorem map_univ_eq {A B : Type} [Fintype A] [DecidableEq B] (e : A ↪ B) {f : A → B} (he : ∀ a, e a = f a) (S : Finset B) (g : B → A)
    (h1 : ∀ a, f a ∈ S) (h2 : ∀ b ∈ S, f (g b) = b) : Finset.univ.map e = S := by
  ext b
  refine ⟨fun h => ?_, fun h => Finset.mem_map.mpr ⟨g b, Finset.mem_univ _, (he _).trans (h2 b h)⟩⟩
  obtain ⟨a, -, rfl⟩ := Finset.mem_map.mp h
  rw [he]; exact h1 a
/-- A map's image of everything lies in `S` when every value does. -/
theorem map_univ_subset {A B : Type} [Fintype A] [DecidableEq B] (e : A ↪ B) {f : A → B} (he : ∀ a, e a = f a) (S : Finset B)
    (h1 : ∀ a, f a ∈ S) : Finset.univ.map e ⊆ S := fun b h => by
  obtain ⟨a, -, rfl⟩ := Finset.mem_map.mp h
  rw [he]; exact h1 a

theorem half_div {h n : Nat} (hn : n < 512) : (512 * h + n) / 512 = h := by omega
theorem half_back {h n : Nat} (hn : n / 512 = h) : 512 * h + n % 512 = n := by omega
theorem half_lt {n : Nat} (h : n < 1024) : n / 512 < 2 := by omega
/-- The position inside its half. -/
abbrev inHalf (n : Nat) : Fin 512 := ⟨n % 512, Nat.mod_lt _ (by decide)⟩
theorem half_cases {n : Nat} (h : n < 1024) : n / 512 = 0 ∨ n / 512 = 1 := by omega

theorem set_wBuf (h : Fin 2) : ((wBuf h).view.set : Finset S2x4096x512.Idx) = wS h :=
  map_univ_eq (B := S2x4096x512.Idx) _ (emb_wBuf h) _ (fun b => (ix2 (b 1) (b 2) : S4096x512.Idx)) (fun a => mem_wS.mpr rfl)
    fun b hb => ext3 (mem_wS.mp hb).symm rfl rfl
theorem set_wRect (h : Fin 2) : ((bM.access (wRect h)).set : Finset S2x4096x512.Idx) = wS h :=
  map_univ_eq (B := S2x4096x512.Idx) _ (emb_wRect h) _ (fun b => (ix3 0 (b 1) (b 2) : S1x4096x512.Idx)) (fun a => mem_wS.mpr rfl)
    fun b hb => ext3 (mem_wS.mp hb).symm rfl rfl
theorem set_yHalf (k : Fin 7) (h : Fin 2) : ((yHalf k h).view.set : Finset S7x512x1024.Idx) = yS k h :=
  map_univ_eq (B := S7x512x1024.Idx) _ (emb_yHalf k h) _ (fun b => (ix2 (b 1) (inHalf (b 2)) : S512x512.Idx))
    (fun a => mem_yS.mpr ⟨rfl, half_div (lt2_1 a)⟩)
    fun b hb => ext3 (mem_yS.mp hb).1.symm rfl (half_back (mem_yS.mp hb).2)
theorem set_yRect (k : Fin 7) (h : Fin 2) : ((yM.access (yRect k h)).set : Finset S7x512x1024.Idx) = yS k h :=
  map_univ_eq (B := S7x512x1024.Idx) _ (emb_yRect k h) _ (fun b => (ix3 0 (b 1) (inHalf (b 2)) : S1x512x512.Idx))
    (fun a => mem_yS.mpr ⟨rfl, half_div (lt3_2 a)⟩)
    fun b hb => ext3 (mem_yS.mp hb).1.symm rfl (half_back (mem_yS.mp hb).2)
theorem set_rHalf (s : Dev nD) (h : Fin 2) : ((rHalf s h).view.set : Finset S8x512x1024.Idx) = rS s h :=
  map_univ_eq (B := S8x512x1024.Idx) _ (emb_rHalf s h) _ (fun b => (ix2 (b 1) (inHalf (b 2)) : S512x512.Idx))
    (fun a => mem_rS.mpr ⟨rfl, half_div (lt2_1 a)⟩)
    fun b hb => ext3 (mem_rS.mp hb).1.symm rfl (half_back (mem_rS.mp hb).2)
theorem set_rRect (c : Dev nD) (k : Fin 7) : ((rM.access (rRect c k)).set : Finset S8x512x1024.Idx) = rS (peer k c) 0 ∪ rS (peer k c) 1 :=
  map_univ_eq (B := S8x512x1024.Idx) _ (emb_rRect c k) _ (fun b => (ix3 0 (b 1) (b 2) : S1x512x1024.Idx))
    (fun a => Finset.mem_union.mpr ((half_cases (lt3_2 a)).imp (fun h => mem_rS.mpr ⟨rfl, h⟩) fun h => mem_rS.mpr ⟨rfl, h⟩))
    fun b hb => ext3 ((Finset.mem_union.mp hb).elim (fun h => (mem_rS.mp h).1.symm) fun h => (mem_rS.mp h).1.symm) rfl rfl
theorem set_sHalf (h : Fin 2) : ((sHalf h).view.set : Finset S2x512x1024.Idx) ⊆ sS h :=
  map_univ_subset (B := S2x512x1024.Idx) _ (emb_sHalf h) _ fun a => mem_sS.mpr rfl
theorem set_sHalfRect (h : Fin 2) : ((sM.access (sHalfRect h)).set : Finset S2x512x1024.Idx) ⊆ sS h :=
  map_univ_subset (B := S2x512x1024.Idx) _ (emb_sHalfRect h) _ fun a => mem_sS.mpr rfl
theorem set_sRect (h : Fin 2) : ((sM.access (sRect h)).set : Finset S2x512x1024.Idx) = sS h :=
  map_univ_eq (B := S2x512x1024.Idx) _ (emb_sRect h) _ (fun b => (ix3 0 (b 1) (b 2) : S1x512x1024.Idx)) (fun a => mem_sS.mpr rfl)
    fun b hb => ext3 (mem_sS.mp hb).symm rfl rfl
theorem set_sBuf (h : Fin 2) : ((sBuf h).view.set : Finset S2x512x1024.Idx) = sS h :=
  map_univ_eq (B := S2x512x1024.Idx) _ (emb_sBuf h) _ (fun b => (ix2 (b 1) (b 2) : S512x1024.Idx)) (fun a => mem_sS.mpr rfl)
    fun b hb => ext3 (mem_sS.mp hb).symm rfl rfl
theorem set_oOwn (c : Dev nD) (h : Fin 2) : ((oOwn c h).view.set : Finset S4096x1024.Idx) = oS c h :=
  map_univ_eq (B := S4096x1024.Idx) _ (emb_oOwn c h) _ (fun b => (ix2 (inHalf (b 0)) (inHalf (b 1)) : S512x512.Idx))
    (fun a => mem_oS.mpr ⟨half_div (lt2_0 a), half_div (lt2_1 a)⟩)
    fun b hb => ext2 (half_back (mem_oS.mp hb).1) (half_back (mem_oS.mp hb).2)
theorem set_oBlk (c : Dev nD) (k : Fin 7) : ((oBlk c k).view.set : Finset S4096x1024.Idx) = oS (peer k c) 0 ∪ oS (peer k c) 1 :=
  map_univ_eq (B := S4096x1024.Idx) _ (emb_oBlk c k) _ (fun b => (ix2 (inHalf (b 0)) (b 1) : S512x1024.Idx))
    (fun a => Finset.mem_union.mpr ((half_cases (lt2_1 a)).imp (fun h => mem_oS.mpr ⟨half_div (lt2_0 a), h⟩) fun h => mem_oS.mpr ⟨half_div (lt2_0 a), h⟩))
    fun b hb => ext2 (half_back ((Finset.mem_union.mp hb).elim (fun h => (mem_oS.mp h).1) fun h => (mem_oS.mp h).1)) rfl

/-! ## How the pieces make up the buffers -/

theorem wS_disj {h h' : Fin 2} (hne : h ≠ h') : Disjoint (wS h) (wS h') :=
  Finset.disjoint_left.mpr fun i hi hi' => hne (Fin.ext ((mem_wS.mp hi).symm.trans (mem_wS.mp hi')))
theorem sS_disj {h h' : Fin 2} (hne : h ≠ h') : Disjoint (sS h) (sS h') :=
  Finset.disjoint_left.mpr fun i hi hi' => hne (Fin.ext ((mem_sS.mp hi).symm.trans (mem_sS.mp hi')))
theorem yS_disj {p p' : Fin 7 × Fin 2} (hne : p ≠ p') : Disjoint (yS p.1 p.2) (yS p'.1 p'.2) :=
  Finset.disjoint_left.mpr fun i hi hi' => hne <| Prod.ext (Fin.ext ((mem_yS.mp hi).1.symm.trans (mem_yS.mp hi').1))
    (Fin.ext ((mem_yS.mp hi).2.symm.trans (mem_yS.mp hi').2))
theorem rS_disj {p p' : Dev nD × Fin 2} (hne : p ≠ p') : Disjoint (rS p.1 p.2) (rS p'.1 p'.2) :=
  Finset.disjoint_left.mpr fun i hi hi' => hne <| Prod.ext (Fin.ext ((mem_rS.mp hi).1.symm.trans (mem_rS.mp hi').1))
    (Fin.ext ((mem_rS.mp hi).2.symm.trans (mem_rS.mp hi').2))
theorem oS_disj {p p' : Dev nD × Fin 2} (hne : p ≠ p') : Disjoint (oS p.1 p.2) (oS p'.1 p'.2) :=
  Finset.disjoint_left.mpr fun i hi hi' => hne <| Prod.ext (Fin.ext ((mem_oS.mp hi).1.symm.trans (mem_oS.mp hi').1))
    (Fin.ext ((mem_oS.mp hi).2.symm.trans (mem_oS.mp hi').2))

theorem wS_all : (Finset.univ : Finset S2x4096x512.Idx) = Finset.univ.biUnion wS := by
  ext i; simp only [Finset.mem_univ, Finset.mem_biUnion, true_and, true_iff]; exact ⟨i 0, mem_wS.mpr rfl⟩
theorem sS_all : (Finset.univ : Finset S2x512x1024.Idx) = Finset.univ.biUnion sS := by
  ext i; simp only [Finset.mem_univ, Finset.mem_biUnion, true_and, true_iff]; exact ⟨i 0, mem_sS.mpr rfl⟩
theorem yS_all : (Finset.univ : Finset S7x512x1024.Idx) = Finset.univ.biUnion fun p : Fin 7 × Fin 2 => yS p.1 p.2 := by
  ext i; simp only [Finset.mem_univ, Finset.mem_biUnion, true_and, true_iff]
  exact ⟨(i 0, ⟨(i 2).val / 512, half_lt (lt3_2 i)⟩), mem_yS.mpr ⟨rfl, rfl⟩⟩
theorem rS_all : (Finset.univ : Finset S8x512x1024.Idx) = Finset.univ.biUnion fun p : Dev nD × Fin 2 => rS p.1 p.2 := by
  ext i; simp only [Finset.mem_univ, Finset.mem_biUnion, true_and, true_iff]
  exact ⟨(⟨(i 0).val, lt3_0 i⟩, ⟨(i 2).val / 512, half_lt (lt3_2 i)⟩), mem_rS.mpr ⟨rfl, rfl⟩⟩
theorem oS_all : (Finset.univ : Finset S4096x1024.Idx) = Finset.univ.biUnion fun p : Dev nD × Fin 2 => oS p.1 p.2 := by
  ext i; simp only [Finset.mem_univ, Finset.mem_biUnion, true_and, true_iff]
  exact ⟨(⟨(i 0).val / 512, by have : (i 0).val < 4096 := lt2_0 i; show _ < 8; omega⟩, ⟨(i 1).val / 512, half_lt (lt2_1 i)⟩), mem_oS.mpr ⟨rfl, rfl⟩⟩

end Cert.SiluA2A

end
-- ==== Proof.Contents.lean ====
/-
# What the buffers hold

The contents of the landing buffers and of the result as functions of the devices' blocks `X` of the rows and `Wt` of the
weight, and the facts that each step's loads, stores and copies leave exactly these contents in the pieces they touch.
-/
module

public import proofs.«01_k».proof.Proof.Pieces

@[expose] public section

noncomputable section

namespace Cert.SiluA2A

open Cert.KernelIdeal Cert.KernelIdeal.Gen
open Idealize.ShloMosaic Idealize.ShloMosaic.TcCoe Idealize.SL.Sem

variable {F : FTy → Type} [FloatOps F]

/-- The columns of `w` that device `d` receives in half `h`. -/
def wblk (w : Vec F S4096x8192 .f32) (d : Dev nD) (h : Fin 2) : Vec F S1x4096x512 .f32 :=
  fun i => w (ix2 (i 1) ⟨1024 * d.val + 512 * h.val + (i 2).val, wb d h (lt3_2 i)⟩)

section Values
variable (X : Dev nD → Vec F S512x4096 .f32) (Wt : Dev nD → Vec F S4096x8192 .f32)

/-- The landing buffers of device `d` once everything has landed: at device `s`'s place the rounded product of `s`'s rows
    with `s`'s weight columns for `d`. -/
def RV (d : Dev nD) : Vec F S8x512x1024 .bf16 := fun i =>
  sent (X ⟨(i 0).val, lt3_0 i⟩) (wblk (Wt ⟨(i 0).val, lt3_0 i⟩) d ⟨(i 2).val / 512, half_lt (lt3_2 i)⟩) (ix2 (i 1) (inHalf (i 2)))

theorem row_lt {n : Nat} (h : n < 4096) : n / 512 < 8 := by omega

/-- The entry of the result of device `d` at row `a`, column `b` of half `h` of device `s`'s block: rounded on the way when it
    comes from another device. -/
def outEntry (d s : Dev nD) (h : Fin 2) (j : S512x512.Idx) : F .f32 :=
  if s = d then silu (X s) (wblk (Wt s) d h) j else (extf .f32 (sent (X s) (wblk (Wt s) d h)) bitsLt_bf16_f32 : FVec F S512x512 .f32) j

/-- The result of device `d`. -/
def OUT (d : Dev nD) : Vec F S4096x1024 .f32 := fun i =>
  outEntry X Wt d ⟨(i 0).val / 512, row_lt (lt2_0 i)⟩ ⟨(i 1).val / 512, half_lt (lt2_1 i)⟩ (ix2 (inHalf (i 0)) (inHalf (i 1)))

end Values

/-! ## Reading and writing pieces -/

/-- Writing through a view of a whole-typed buffer puts `w x` at the place of `x`. -/
theorem write_at {κ : Kind} {sp : Space} {s : Shape} {e : EltTy} (v : View sig κ sp s e) (f : v.ty.Contents (Elt F)) (w : s.Idx → Elt F e)
    (x : s.Idx) {i : v.ty.Idx} (hi : v.emb x = i) :
    v.write (Elt F) f w Finset.univ i = _root_.cast (congrArg (Elt F) v.elt_eq.symm) (w x) := by
  subst hi; exact View.write_emb_of_mem f w (Finset.mem_univ x)

/-- Reading through a view gives what is at the place of `x`. -/
theorem read_at {κ : Kind} {sp : Space} {s : Shape} {e : EltTy} (v : View sig κ sp s e) (g : v.ty.Contents (Elt F))
    (x : s.Idx) {i : v.ty.Idx} (hi : v.emb x = i) {y : Elt F e} (h : g i = _root_.cast (congrArg (Elt F) v.elt_eq.symm) y) :
    v.read (Elt F) g x = y := by
  subst hi; rw [View.read_apply, h, cast_cast, cast_eq]

/-- Adding a leading unit axis: index `(0, j)` is index `j` of the shape without it. -/
theorem unsqueeze_idx {a b : Nat} (h : (⟨3, ![1, a, b]⟩ : Shape).numel = (⟨2, ![a, b]⟩ : Shape).numel) (i : (⟨3, ![1, a, b]⟩ : Shape).Idx) :
    Shape.reshapeEquiv h i = ix2 (n0 := a) (n1 := b) (i 1) (i 2) := by
  have h0 : i = Shape.reshapeEquiv h.symm (ix2 (n0 := a) (n1 := b) (i 1) (i 2)) := by
    rw [squeeze_idx]; exact ext3 (by have := lt3_0 i; show (i 0).val = 0; omega) rfl rfl
  exact (congrArg (Shape.reshapeEquiv h) h0).trans ((Shape.reshapeEquiv_reshapeEquiv _ _ _).trans (Shape.reshapeEquiv_self _ _))

theorem cast3_apply {a b : Nat} {e : EltTy} (v : (⟨2, ![a, b]⟩ : Shape).Idx → Elt F e) (h) (i : (⟨3, ![1, a, b]⟩ : Shape).Idx) :
    (shapeCast (⟨3, ![1, a, b]⟩ : Shape) v h : (⟨3, ![1, a, b]⟩ : Shape).Idx → Elt F e) i = v (ix2 (n0 := a) (n1 := b) (i 1) (i 2)) := by
  show v (Shape.reshapeEquiv _ i) = _
  rw [unsqueeze_idx]
theorem cast2_apply {a b : Nat} {e : EltTy} (v : (⟨3, ![1, a, b]⟩ : Shape).Idx → Elt F e) (h) (j : (⟨2, ![a, b]⟩ : Shape).Idx) :
    (shapeCast (⟨2, ![a, b]⟩ : Shape) v h : (⟨2, ![a, b]⟩ : Shape).Idx → Elt F e) j = v (ix3 (n0 := 1) (n1 := a) (n2 := b) 0 (j 0) (j 1)) := by
  show v (Shape.reshapeEquiv _ j) = _
  rw [squeeze_idx]

/-- The load of weight buffer `h` after the copy of target `t`'s columns into it. -/
theorem load_w (c : Dev nD) (t : Option (Fin 7)) (h : Fin 2) (f : Vec F S2x4096x512 .f32) (w : Vec F S4096x8192 .f32) :
    bM.view.readAt (Elt F) (wRect h).toLoadRect ((wBuf h).view.write (Elt F) f ((wSrc c t h).view.read (Elt F) w) Finset.univ) = wblk w (tgt c t) h := by
  funext i
  show (wBuf h).view.write (Elt F) f ((wSrc c t h).view.read (Elt F) w) Finset.univ ((wRect h).emb i) = _
  refine (write_at (F := F) (wBuf h).view f _ (ix2 (i 1) (i 2)) (i := ((wRect h).emb i : S2x4096x512.Idx)) ((emb_wBuf h _).trans (emb_wRect h i).symm)).trans ?_
  exact congrArg w (emb_wSrc c t h _)

theorem load_x (x : Vec F S512x4096 .f32) :
    xM.view.readAt (Elt F) (Rect.unit (s := S512x4096) ![0, 0] S512x4096.size inb_S512x4096_S512x4096_0_0).toLoadRect x = x :=
  Memref.readAt_unit_zero (Elt F) cc0_stg0_0 (funext fun a => by fin_cases a <;> rfl) _ x

theorem cov_rS {c : Dev nD} {h : Fin 2} {i : S8x512x1024.Idx} (hi : i ∈ rS c h) :
    ∃ j : S512x512.Idx, i = ix3 c (j 0) ⟨512 * h.val + (j 1).val, yb h (lt2_1 j)⟩ :=
  ⟨ix2 (i 1) (inHalf (i 2)), ext3 (mem_rS.mp hi).1 rfl (half_back (mem_rS.mp hi).2).symm⟩
theorem cov_oS {c : Dev nD} {h : Fin 2} {i : S4096x1024.Idx} (hi : i ∈ oS c h) :
    ∃ j : S512x512.Idx, i = ix2 ⟨512 * c.val + (j 0).val, ob c (lt2_0 j)⟩ ⟨512 * h.val + (j 1).val, yb h (lt2_1 j)⟩ :=
  ⟨ix2 (inHalf (i 0)) (inHalf (i 1)), ext2 (half_back (mem_oS.mp hi).1).symm (half_back (mem_oS.mp hi).2).symm⟩
theorem cov_oS2 {c : Dev nD} {i : S4096x1024.Idx} (hi : i ∈ oS c 0 ∪ oS c 1) :
    ∃ j : S512x1024.Idx, i = ix2 ⟨512 * c.val + (j 0).val, ob c (lt2_0 j)⟩ (j 1) :=
  ⟨ix2 (inHalf (i 0)) (i 1), ext2 (half_back ((Finset.mem_union.mp hi).elim (fun h => (mem_oS.mp h).1) fun h => (mem_oS.mp h).1)).symm rfl⟩

/-- A block stored into half `h` of send buffer `k`, as the copy out of it reads it. -/
theorem y_read (k : Fin 7) (h : Fin 2) (fy : Vec F S7x512x1024 .bf16) (v : Vec F S1x512x512 .bf16) (j : S512x512.Idx) :
    (yHalf k h).view.read (Elt F) ((yM.access (yRect k h)).write (Elt F) fy v Finset.univ) j = v (ix3 0 (j 0) (j 1)) :=
  read_at (F := F) (yHalf k h).view _ j (emb_yHalf k h j) (write_at (F := F) (yM.access (yRect k h)) fy v (ix3 0 (j 0) (j 1)) (emb_yRect k h _))
theorem sHalf_read (h : Fin 2) (fs : Vec F S2x512x1024 .f32) (v : Vec F S1x512x512 .f32) (j : S512x512.Idx) :
    (sHalf h).view.read (Elt F) ((sM.access (sHalfRect h)).write (Elt F) fs v Finset.univ) j = v (ix3 0 (j 0) (j 1)) :=
  read_at (F := F) (sHalf h).view _ j (emb_sHalf h j) (write_at (F := F) (sM.access (sHalfRect h)) fs v (ix3 0 (j 0) (j 1)) (emb_sHalfRect h _))
theorem sBuf_read (h : Fin 2) (fs : Vec F S2x512x1024 .f32) (v : Vec F S1x512x1024 .f32) (j : S512x1024.Idx) :
    (sBuf h).view.read (Elt F) ((sM.access (sRect h)).write (Elt F) fs v Finset.univ) j = v (ix3 0 (j 0) (j 1)) :=
  read_at (F := F) (sBuf h).view _ j (emb_sBuf h j) (write_at (F := F) (sM.access (sRect h)) fs v (ix3 0 (j 0) (j 1)) (emb_sRect h _))
/-- What a copy writes through each of its targets. -/
theorem rHalf_write (c : Dev nD) (h : Fin 2) (fd : Vec F S8x512x1024 .bf16) (v : Vec F S512x512 .bf16) (j : S512x512.Idx) :
    (rHalf c h).view.write (Elt F) fd v Finset.univ (ix3 c (j 0) ⟨512 * h.val + (j 1).val, yb h (lt2_1 j)⟩ : S8x512x1024.Idx) = v j :=
  write_at (F := F) (rHalf c h).view fd v j (emb_rHalf c h j)
theorem oOwn_write (c : Dev nD) (h : Fin 2) (fo : Vec F S4096x1024 .f32) (v : Vec F S512x512 .f32) (j : S512x512.Idx) :
    (oOwn c h).view.write (Elt F) fo v Finset.univ
      (ix2 ⟨512 * c.val + (j 0).val, ob c (lt2_0 j)⟩ ⟨512 * h.val + (j 1).val, yb h (lt2_1 j)⟩ : S4096x1024.Idx) = v j :=
  write_at (F := F) (oOwn c h).view fo v j (emb_oOwn c h j)
theorem oBlk_write (c : Dev nD) (k : Fin 7) (fo : Vec F S4096x1024 .f32) (v : Vec F S512x1024 .f32) (j : S512x1024.Idx) :
    (oBlk c k).view.write (Elt F) fo v Finset.univ (ix2 ⟨512 * (peer k c).val + (j 0).val, ob _ (lt2_0 j)⟩ (j 1) : S4096x1024.Idx) = v j :=
  write_at (F := F) (oBlk c k).view fo v j (emb_oBlk c k j)
theorem ySt_at (x : Vec F S512x4096 .f32) (w : Vec F S1x4096x512 .f32) (j : S512x512.Idx) : ySt x w (ix3 0 (j 0) (j 1)) = sent x w j :=
  (cast3_apply (F := F) (a := 512) (b := 512) (e := .bf16) (sent x w) _ _).trans (congrArg (sent x w) (ix2_eta j))
theorem oSt_at (x : Vec F S512x4096 .f32) (w : Vec F S1x4096x512 .f32) (j : S512x512.Idx) : oSt x w (ix3 0 (j 0) (j 1)) = silu x w j :=
  (cast3_apply (F := F) (a := 512) (b := 512) (e := .f32) (silu x w) _ _).trans (congrArg (silu x w) (ix2_eta j))
/-- A value widened. -/
def wide (z : F .bf16) : F .f32 := FloatOps.extf .f32 bitsLt_bf16_f32 z
theorem dSt_at (v : Vec F S1x512x1024 .bf16) (j : S512x1024.Idx) : dSt v (ix3 0 (j 0) (j 1)) = wide (v (ix3 0 (j 0) (j 1))) :=
  (cast3_apply (F := F) (a := 512) (b := 1024) (e := .f32) (extf .f32 (shapeCast S512x1024 v shapeCasts_S1x512x1024_S512x1024) bitsLt_bf16_f32) _ _).trans
    (congrArg wide (cast2_apply (F := F) (a := 512) (b := 1024) (e := .bf16) v _ _))

section Lands
variable (X : Dev nD → Vec F S512x4096 .f32) (Wt : Dev nD → Vec F S4096x8192 .f32)

theorem RV_at (d s : Dev nD) (h : Fin 2) (j : S512x512.Idx) :
    RV X Wt d (ix3 s (j 0) ⟨512 * h.val + (j 1).val, yb h (lt2_1 j)⟩) = sent (X s) (wblk (Wt s) d h) j := by
  unfold RV
  have h1 : (⟨(512 * h.val + (j 1).val) / 512, half_lt (yb h (lt2_1 j))⟩ : Fin 2) = h := Fin.ext (half_div (lt2_1 j))
  have h2 : (ix2 (j 0) (inHalf (512 * h.val + (j 1).val)) : S512x512.Idx) = j := ext2 rfl (by have := lt2_1 j; show (_ + _) % 512 = _; omega)
  show sent (X s) (wblk (Wt s) d ⟨(512 * h.val + (j 1).val) / 512, _⟩) (ix2 (j 0) (inHalf (512 * h.val + (j 1).val))) = _
  rw [h1, h2]

/-- A send lands the contents the receiver's landing buffers are to have. -/
theorem send_lands (c : Dev nD) (k : Fin 7) (h : Fin 2) (fd : Vec F S8x512x1024 .bf16) (fy : Vec F S7x512x1024 .bf16) (i : S8x512x1024.Idx) (hi : i ∈ rS c h) :
    (rHalf c h).view.write (Elt F) fd ((yHalf k h).view.read (Elt F)
      ((yM.access (yRect k h)).write (Elt F) fy (ySt (X c) (wblk (Wt c) (peer k c) h)) Finset.univ)) Finset.univ i = RV X Wt (peer k c) i := by
  obtain ⟨j, rfl⟩ := cov_rS hi
  exact (rHalf_write c h fd _ j).trans ((y_read k h fy _ j).trans ((ySt_at _ _ j).trans (RV_at X Wt (peer k c) c h j).symm))

theorem OUT_at (d s : Dev nD) (h : Fin 2) (j : S512x512.Idx) :
    OUT X Wt d (ix2 ⟨512 * s.val + (j 0).val, ob s (lt2_0 j)⟩ ⟨512 * h.val + (j 1).val, yb h (lt2_1 j)⟩) = outEntry X Wt d s h j := by
  unfold OUT
  have h0 : (⟨(512 * s.val + (j 0).val) / 512, row_lt (ob s (lt2_0 j))⟩ : Dev nD) = s := Fin.ext (half_div (lt2_0 j))
  have h1 : (⟨(512 * h.val + (j 1).val) / 512, half_lt (yb h (lt2_1 j))⟩ : Fin 2) = h := Fin.ext (half_div (lt2_1 j))
  have h2 : (ix2 (inHalf (512 * s.val + (j 0).val)) (inHalf (512 * h.val + (j 1).val)) : S512x512.Idx) = j :=
    ext2 (by have := lt2_0 j; show (_ + _) % 512 = _; omega) (by have := lt2_1 j; show (_ + _) % 512 = _; omega)
  show outEntry X Wt d ⟨(512 * s.val + (j 0).val) / 512, _⟩ ⟨(512 * h.val + (j 1).val) / 512, _⟩ (ix2 (inHalf (512 * s.val + (j 0).val)) (inHalf (512 * h.val + (j 1).val))) = _
  rw [h0, h1, h2]

theorem outEntry_own (c : Dev nD) (h : Fin 2) (j : S512x512.Idx) : outEntry X Wt c c h j = silu (X c) (wblk (Wt c) c h) j := if_pos rfl
theorem outEntry_peer (c s : Dev nD) (hs : s ≠ c) (h : Fin 2) (j : S512x512.Idx) : outEntry X Wt c s h j = wide (sent (X s) (wblk (Wt s) c h) j) := if_neg hs

/-- The copy of the device's own half puts the contents the result is to have. -/
theorem own_out (c : Dev nD) (h : Fin 2) (fo : Vec F S4096x1024 .f32) (fs : Vec F S2x512x1024 .f32) (i : S4096x1024.Idx) (hi : i ∈ oS c h) :
    (oOwn c h).view.write (Elt F) fo ((sHalf h).view.read (Elt F)
      ((sM.access (sHalfRect h)).write (Elt F) fs (oSt (X c) (wblk (Wt c) c h)) Finset.univ)) Finset.univ i = OUT X Wt c i := by
  obtain ⟨j, rfl⟩ := cov_oS hi
  exact (oOwn_write c h fo _ j).trans ((sHalf_read h fs _ j).trans ((oSt_at _ _ j).trans ((outEntry_own X Wt c h j).symm.trans (OUT_at X Wt c c h j).symm)))

/-- A block read back from the landing buffers, entry by entry. -/
theorem drain_entry (c : Dev nD) (k : Fin 7) (j : S512x1024.Idx) :
    wide (rM.view.readAt (Elt F) (rRect c k).toLoadRect (RV X Wt c) (ix3 0 (j 0) (j 1)))
      = OUT X Wt c (ix2 ⟨512 * (peer k c).val + (j 0).val, ob _ (lt2_0 j)⟩ (j 1)) := by
  have hj := lt2_1 j
  let h : Fin 2 := ⟨(j 1).val / 512, half_lt hj⟩
  let j' : S512x512.Idx := ix2 (j 0) (inHalf (j 1))
  have e1 : (ix2 ⟨512 * (peer k c).val + (j 0).val, ob _ (lt2_0 j)⟩ (j 1) : S4096x1024.Idx)
      = ix2 ⟨512 * (peer k c).val + (j' 0).val, ob _ (lt2_0 j')⟩ ⟨512 * h.val + (j' 1).val, yb h (lt2_1 j')⟩ :=
    ext2 rfl (half_back rfl).symm
  have e2 : ((rRect c k).emb (ix3 0 (j 0) (j 1) : S1x512x1024.Idx) : S8x512x1024.Idx)
      = ix3 (peer k c) (j' 0) ⟨512 * h.val + (j' 1).val, yb h (lt2_1 j')⟩ := (emb_rRect c k _).trans (ext3 rfl rfl (half_back rfl).symm)
  rw [e1, OUT_at, outEntry_peer X Wt c _ (peer_ne k c)]
  exact congrArg wide ((congrArg (RV X Wt c) e2).trans (RV_at X Wt c (peer k c) h j'))

/-- So does a drain's copy. -/
theorem drain_out (c : Dev nD) (k : Fin 7) (s : Fin 2) (fo : Vec F S4096x1024 .f32) (fs : Vec F S2x512x1024 .f32) (i : S4096x1024.Idx)
    (hi : i ∈ oS (peer k c) 0 ∪ oS (peer k c) 1) :
    (oBlk c k).view.write (Elt F) fo ((sBuf s).view.read (Elt F)
      ((sM.access (sRect s)).write (Elt F) fs (dSt (rM.view.readAt (Elt F) (rRect c k).toLoadRect (RV X Wt c))) Finset.univ)) Finset.univ i = OUT X Wt c i := by
  obtain ⟨j, rfl⟩ := cov_oS2 hi
  exact (oBlk_write c k fo _ j).trans ((sBuf_read s fs _ j).trans ((dSt_at _ j).trans (drain_entry X Wt c k j)))

end Lands

end Cert.SiluA2A

end
-- ==== Proof.BlockValue.lean ====
/-
# What one step computes, over the extended reals

Entry by entry: a block's product is the sum over the contracted coordinate, a device's own half and a half that travelled
rounded hold the same values, and so every entry of a device's result is the gate of one inner product.
-/
module

public import proofs.«01_k».proof.Proof.Contents
public import Idealize.ShloMosaic.Lib.MatmulPlain
public import Idealize.ShloMosaic.Lib.IdealHost

@[expose] public section

noncomputable section

namespace Cert.SiluA2A

open Cert.KernelIdeal Cert.KernelIdeal.Gen
open Idealize.ShloMosaic Idealize.ShloMosaic.TcCoe Idealize.SL.Sem
open scoped BigOperators

/-- The gated unit of one number: the number times its logistic. -/
def gate (y : EReal) : EReal := y * Ideal.logistic y

/-- Recasting an array to its own shape changes nothing. -/
theorem recast_same {s : Shape} {α : Type} (v : s.Idx → α) (h) (i : s.Idx) : shapeCast s v h i = v i := by
  show v (Shape.reshapeEquiv _ i) = v i
  rw [Shape.reshapeEquiv_self]

/-- A product of a matrix by a matrix into zeros, at an index. -/
theorem product_at {M K N : Nat} (l : FVec Ideal ⟨2, ![M, K]⟩ .f32) (r : FVec Ideal ⟨2, ![K, N]⟩ .f32)
    (j : (⟨2, ![M, N]⟩ : Shape).Idx) :
    FloatOps.matmul (DotDims.plain M K N) none l r (constant (⟨2, ![M, N]⟩ : Shape) .f32 0x00000000#32) j
      = ∑ k : Fin K, (l (ix2 (j 0) k) * r (ix2 k (j 1)) : EReal) := by
  have hj : j = ValueIdx.ix2 (n0 := M) (n1 := N) (j 0) (j 1) := ext2 rfl rfl
  refine (congrArg _ hj).trans ((Ideal.matmul_plain_apply none l r _ (j 0) (j 1)).trans ?_)
  refine (congrArg (· + _) (show _ = (0 : EReal) from Ideal.ofBits_zero_f32)).trans ((zero_add _).trans ?_)
  exact Finset.sum_congr rfl fun k _ => congrArg₂ (· * ·) (congrArg l (ext2 rfl rfl)) (congrArg r (ext2 rfl rfl))

/-- A block's product at an index. -/
theorem prod_at (x : Vec Ideal S512x4096 .f32) (w : Vec Ideal S1x4096x512 .f32) (j : S512x512.Idx) :
    prod (F := Ideal) x w j = ∑ k : Fin 4096, (x (ix2 (j 0) k) * w (ix3 0 k (j 1)) : EReal) := by
  refine (product_at (M := 512) (K := 4096) (N := 512) _ _ j).trans (Finset.sum_congr rfl fun k _ => ?_)
  exact congrArg₂ (· * ·) (recast_same x _ _) (cast2_apply (F := Ideal) (a := 4096) (b := 512) (e := .f32) w _ (ix2 k (j 1)))

/-- A block's gated product at an index. -/
theorem silu_at (x : Vec Ideal S512x4096 .f32) (w : Vec Ideal S1x4096x512 .f32) (j : S512x512.Idx) :
    silu (F := Ideal) x w j = gate (prod (F := Ideal) x w j) := rfl

/-- Rounded on the way or not, an entry holds the same extended real. -/
theorem outEntry_ideal (X : Dev nD → Vec Ideal S512x4096 .f32) (Wt : Dev nD → Vec Ideal S4096x8192 .f32) (d s : Dev nD) (h : Fin 2)
    (j : S512x512.Idx) : outEntry (F := Ideal) X Wt d s h j = silu (F := Ideal) (X s) (wblk (Wt s) d h) j := by
  by_cases hs : s = d
  · exact if_pos hs
  · exact if_neg hs

theorem col_lt (d : Dev nD) {b : Nat} (hb : b < 1024) : 1024 * d.val + b < 8192 := by
  have := d.isLt; have : d.val < 8 := this; omega

/-- **Every entry of device `d`'s result**: row `a` comes from device `a / 512`, whose row `a mod 512` meets column
    `1024 d + b` of its weight; the entry is the gate of that inner product. -/
theorem OUT_ideal (X : Dev nD → Vec Ideal S512x4096 .f32) (Wt : Dev nD → Vec Ideal S4096x8192 .f32) (d : Dev nD) (i : S4096x1024.Idx) :
    OUT (F := Ideal) X Wt d i
      = gate (∑ k : Fin 4096, (X ⟨(i 0).val / 512, row_lt (lt2_0 i)⟩ (ix2 (inHalf (i 0)) k)
          * Wt ⟨(i 0).val / 512, row_lt (lt2_0 i)⟩ (ix2 k ⟨1024 * d.val + (i 1).val, col_lt d (lt2_1 i)⟩) : EReal)) := by
  unfold OUT
  rw [outEntry_ideal, silu_at, prod_at]
  refine congrArg gate (Finset.sum_congr rfl fun k _ => congrArg (_ * ·)
    (congrArg (Wt ⟨(i 0).val / 512, row_lt (lt2_0 i)⟩) (ext2 rfl ?_)))
  show 1024 * d.val + 512 * ((i 1).val / 512) + (i 1).val % 512 = 1024 * d.val + (i 1).val
  omega

end Cert.SiluA2A

end
-- ==== Proof.Equation.lean ====
/-
# The equation

The gate a kernel computes and the quotients the references compute, number by number, over the extended reals.
-/
module

public import proofs.«01_k».proof.Proof.BlockValue

@[expose] public section

noncomputable section

namespace Cert.SiluA2A

open Idealize.ShloMosaic

/-- An exponential is not negative. -/
theorem exp_nonneg (y : EReal) : 0 ≤ Ideal.exp y := by
  induction y using EReal.rec with
  | bot => exact le_of_eq Ideal.exp_bot.symm
  | coe r => rw [Ideal.exp_coe]; exact_mod_cast (Real.exp_pos r).le
  | top => rw [Ideal.exp_top]; exact le_top

/-- The divisor of the gate is never zero. -/
theorem divisor_ne (y : EReal) : 1 + Ideal.exp (-y) ≠ 0 := fun e => by
  have h : (1 : EReal) ≤ 1 + Ideal.exp (-y) := le_add_of_nonneg_right (exp_nonneg _)
  rw [e] at h
  exact absurd h (by simp)

/-- **The gate is the quotient**, at every extended real. -/
theorem gate_quotient (y : EReal) : gate y = Ideal.div y (1 + Ideal.exp (-y)) :=
  Ideal.mul_one_div (divisor_ne y)

/-- A number already between the bounds is left alone by clipping. -/
theorem clip_between {lo hi y : EReal} (h₁ : lo ≤ y) (h₂ : y ≤ hi) : min hi (max lo y) = y := by
  rw [max_eq_right h₁, min_eq_right h₂]

/-- **The gate is the quotient with the clipped exponent**, at a number between the bounds. -/
theorem gate_clipped {lo hi y : EReal} (h₁ : lo ≤ y) (h₂ : y ≤ hi) :
    gate y = Ideal.div y (1 + Ideal.exp (-(min hi (max lo y)))) := by
  rw [clip_between h₁ h₂, gate_quotient]

end Cert.SiluA2A

end
-- ==== Proof.ReferenceValue.lean ====
/-
# What the references compute, over the extended reals

The two references' results and the precondition's two comparisons, entry by entry, as functions of inner products.
-/
module

public import proofs.«01_k».proof.Proof.Equation
public import proofs.«01_k».proof.Proof.Gen.ReferenceIdeal.Run
public import proofs.«01_k».proof.Proof.Gen.UnclippedIdeal.Run
public import proofs.«01_k».proof.Proof.Gen.Pre_in_range_KernelIdeal
public import Idealize.ShloMosaic.Lib.StackMember

@[expose] public section

noncomputable section

namespace Cert.SiluA2A

open Idealize.ShloMosaic Idealize.ShloMosaic.TcCoe Idealize.SL.Sem
open scoped BigOperators

/-- The inner product of row `a` of `x` and column `b` of `w`. -/
def inner {M K N : Nat} (x : FVec Ideal ⟨2, ![M, K]⟩ .f32) (w : FVec Ideal ⟨2, ![K, N]⟩ .f32) (a : Fin M) (b : Fin N) : EReal :=
  ∑ k : Fin K, (x (ix2 a k) * w (ix2 k b) : EReal)

/-- A host product of two matrices, at an index. -/
theorem host_product_at {M K N : Nat} (x : FVec Ideal ⟨2, ![M, K]⟩ .f32) (w : FVec Ideal ⟨2, ![K, N]⟩ .f32)
    (j : (⟨2, ![M, N]⟩ : Shape).Idx) : Host.dotGeneral (DotDims.plain M K N) none x w j = inner x w (j 0) (j 1) := by
  have hj : j = ValueIdx.ix2 (n0 := M) (n1 := N) (j 0) (j 1) := ext2 rfl rfl
  refine (congrArg _ hj).trans ((StackMember.dotGeneral_plain_apply none x w (j 0) (j 1)).trans ?_)
  exact Finset.sum_congr rfl fun k _ => congrArg₂ (· * ·) (congrArg x (ext2 rfl rfl)) (congrArg w (ext2 rfl rfl))

/-- The lower bound of the clip, as the program's constant denotes it. -/
def lo : EReal := Ideal.ofBits .f32 0xC2700000#32
/-- The upper bound of the clip, as the program's constant denotes it. -/
def hi : EReal := Ideal.ofBits .f32 0x42700000#32

section Unclipped
open Cert.UnclippedIdeal Cert.UnclippedIdeal.Gen

/-- The reference without the clip: the product, divided by one plus the exponential of minus the product. -/
def unclippedOut (x : FVec Ideal S4096x4096 .f32) (w : FVec Ideal S4096x8192 .f32) : FVec Ideal S4096x8192 .f32 :=
  Host.divf (Host.dotGeneral dot_S4096x4096_S4096x8192_S4096x8192_1_0_0_1_n_n none x w)
    (addf (broadcastInDim S4096x8192 ![] bcast_S_S4096x8192 (constant S_ .f32 0x3F800000#32))
      (Host.exp (Host.negf (Host.dotGeneral dot_S4096x4096_S4096x8192_S4096x8192_1_0_0_1_n_n none x w))))

/-- Its entries. -/
theorem unclippedOut_at (x : FVec Ideal S4096x4096 .f32) (w : FVec Ideal S4096x8192 .f32) (j : S4096x8192.Idx) :
    unclippedOut x w j = gate (inner x w (j 0) (j 1)) := by
  have h : Host.dotGeneral dot_S4096x4096_S4096x8192_S4096x8192_1_0_0_1_n_n none x w j = inner x w (j 0) (j 1) :=
    host_product_at (M := 4096) (K := 4096) (N := 8192) x w j
  show Ideal.div (Host.dotGeneral dot_S4096x4096_S4096x8192_S4096x8192_1_0_0_1_n_n none x w j)
    (Ideal.ofBits .f32 0x3F800000#32 + Ideal.exp (-(Host.dotGeneral dot_S4096x4096_S4096x8192_S4096x8192_1_0_0_1_n_n none x w j))) = _
  rw [h, Ideal.ofBits_one_f32, gate_quotient]

end Unclipped

section Clipped
open Cert.ReferenceIdeal Cert.ReferenceIdeal.Gen

/-- The reference: the same quotient, the exponent clipped. -/
def clippedOut (x : FVec Ideal S4096x4096 .f32) (w : FVec Ideal S4096x8192 .f32) : FVec Ideal S4096x8192 .f32 :=
  Host.divf (Host.dotGeneral dot_S4096x4096_S4096x8192_S4096x8192_1_0_0_1_n_n none x w)
    (addf (broadcastInDim S4096x8192 ![] bcast_S_S4096x8192 (constant S_ .f32 0x3F800000#32))
      (Host.exp (Host.negf (minimumf (broadcastInDim S4096x8192 ![] bcast_S_S4096x8192 (id (constant S_ .f32 0x42700000#32)))
        (maximumf (broadcastInDim S4096x8192 ![] bcast_S_S4096x8192 (id (constant S_ .f32 0xC2700000#32)))
          (Host.dotGeneral dot_S4096x4096_S4096x8192_S4096x8192_1_0_0_1_n_n none x w))))))

/-- Its entries where the product is between the bounds. -/
theorem clippedOut_at (x : FVec Ideal S4096x4096 .f32) (w : FVec Ideal S4096x8192 .f32) (j : S4096x8192.Idx)
    (h₁ : lo ≤ inner x w (j 0) (j 1)) (h₂ : inner x w (j 0) (j 1) ≤ hi) :
    clippedOut x w j = gate (inner x w (j 0) (j 1)) := by
  have h : Host.dotGeneral dot_S4096x4096_S4096x8192_S4096x8192_1_0_0_1_n_n none x w j = inner x w (j 0) (j 1) :=
    host_product_at (M := 4096) (K := 4096) (N := 8192) x w j
  show Ideal.div (Host.dotGeneral dot_S4096x4096_S4096x8192_S4096x8192_1_0_0_1_n_n none x w j)
    (Ideal.ofBits .f32 0x3F800000#32 + Ideal.exp (-(min hi (max lo
      (Host.dotGeneral dot_S4096x4096_S4096x8192_S4096x8192_1_0_0_1_n_n none x w j))))) = _
  rw [h, Ideal.ofBits_one_f32, gate_clipped h₁ h₂]

end Clipped

section Bounds
open Cert.Pre_in_range_KernelIdeal Cert.Pre_in_range_KernelIdeal.Gen

/-- Two truth values whose conjunction is the true bit are both true. -/
theorem both_true {p q : Bool} (h : BitVec.ofBool p &&& BitVec.ofBool q = 1#1) : p = true ∧ q = true := by
  revert p q; decide

/-- The precondition, read at a row and a column: that inner product is between the bounds. -/
theorem bounds_of_pre (x : FVec Ideal S512x4096 .f32) (w : FVec Ideal S4096x8192 .f32)
    (h : Cert.Pre_in_range_KernelIdeal.fn (F := Ideal) x w = fun _ => 1#1) (a : Fin 512) (b : Fin 8192) :
    lo ≤ inner x w a b ∧ inner x w a b ≤ hi := by
  have e : Host.dotGeneral dot_S512x4096_S4096x8192_S512x8192_1_0_0_1_n_n none x w (ix2 a b) = inner x w a b :=
    host_product_at (M := 512) (K := 4096) (N := 8192) x w (ix2 a b)
  have hb : BitVec.ofBool (decide (lo ≤ Host.dotGeneral dot_S512x4096_S4096x8192_S512x8192_1_0_0_1_n_n none x w (ix2 a b)))
      &&& BitVec.ofBool (decide (Host.dotGeneral dot_S512x4096_S4096x8192_S512x8192_1_0_0_1_n_n none x w (ix2 a b) ≤ hi)) = 1#1 :=
    congrFun h (ix2 a b)
  rw [e] at hb
  exact ⟨of_decide_eq_true (both_true hb).1, of_decide_eq_true (both_true hb).2⟩

end Bounds

end Cert.SiluA2A

end
-- ==== Proof.Schedule.lean ====
/-
# The protocol: who tells whom, and what each signal hands over

Three kinds of semaphore are touched by more than one party.

* The barrier semaphore of device `c` counts one unit from each of the other seven devices. The unit of the device that
  step `k` exchanges with hands `c` the two halves of that device's landing buffer that `c` will send into.
* The receive semaphore of device `d` for sender `s ≠ d` counts the two halves of `s`'s block. Each half hands `d` that
  half of the landing buffer, with the contents `RV X Wt d` gives.
* The send semaphore of step `k`, half `h`, counts the copy that leaves; it hands the send buffer's half back.

Every semaphore runs one round (round 0). `X d` is device `d`'s rows and `Wt d` its weight.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.SiluA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the protocol, seven duty names. -/
abbrev UB : Type := URounds (GSem nD τ sig) (Fin 7)
/-- The pipeline's rounds, the protocol's, and the counters of the device's local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## The semaphores -/

/-- Whose semaphore it is. -/
inductive Kind where
  | bar
  | send (k : Fin 7) (h : Fin 2)
  | recv (s : Dev nD)
  | other
  deriving DecidableEq

/-- The kind of a semaphore, from its number. -/
def kind : SemLoc sig → Kind
  | .reg s => if s = barS then .bar else .other
  | .dma q =>
    if h : 3 ≤ q.val ∧ q.val < 17 then .send ⟨(q.val - 3) / 2, by omega⟩ ⟨(q.val - 3) % 2, by omega⟩
    else if h : 17 ≤ q.val ∧ q.val < 25 then .recv ⟨q.val - 17, by show _ < 8; omega⟩
    else .other

theorem kind_bar : kind (.reg barS) = .bar := by decide
theorem kind_send (k : Fin 7) (h : Fin 2) : kind (.dma (sendSem k h)) = .send k h := by revert k h; decide
theorem kind_recv (s : Dev nD) : kind (.dma (recvSem s)) = .recv s := by revert s; decide
theorem kind_w (h : Fin 2) : kind (.dma (wSem h)) = .other := by revert h; decide
theorem kind_s (h : Fin 2) : kind (.dma (sSem h)) = .other := by revert h; decide

/-- Device `c`'s cells. -/
abbrev barCell (c : Dev nD) : GSem nD τ sig := ((c : Thread nD τ), .reg barS)
abbrev sendCell (c : Dev nD) (k : Fin 7) (h : Fin 2) : GSem nD τ sig := ((c : Thread nD τ), .dma (sendSem k h))
abbrev recvCell (c s : Dev nD) : GSem nD τ sig := ((c : Thread nD τ), .dma (recvSem s))

/-- The credit of one half of a block. -/
abbrev N : ℕ := (yHalf 0 0).view.dmaCredit
theorem N_pos : 0 < N := View.dmaCredit_pos _ (by decide)
theorem credit_yHalf (k : Fin 7) (h : Fin 2) : (yHalf k h).view.dmaCredit = N := rfl
theorem credit_rHalf (c : Dev nD) (h : Fin 2) : (rHalf c h).view.dmaCredit = N := rfl
theorem credit_rBlk (c : Dev nD) (k : Fin 7) : (rBlk c k).view.dmaCredit = N + N := rfl

/-! ## The pieces of the buffers -/

/-- Half `h` of landing buffer `s` on device `d`. -/
def rP (d s : Dev nD) (h : Fin 2) (f : Vec F S8x512x1024 .bf16) : sProp 𝕄 :=
  ((d : Thread nD τ).loc cc0_scratch2) ↦[rS s h]{fullShare} f
/-- Half `h` of send buffer `k`. -/
def yP (c : Dev nD) (k : Fin 7) (h : Fin 2) (f : Vec F S7x512x1024 .bf16) : sProp 𝕄 :=
  ((c : Thread nD τ).loc cc0_scratch1) ↦[yS k h]{fullShare} f

instance rP_storable (d s : Dev nD) (h : Fin 2) (f) : BI.Storable (upEmb : UEmb _ 𝕄) (rP (F := F) d s h f) := by unfold rP; infer_instance
instance yP_storable (c : Dev nD) (k : Fin 7) (h : Fin 2) (f) : BI.Storable (upEmb : UEmb _ 𝕄) (yP (F := F) c k h f) := by unfold yP; infer_instance

/-! ## The schedule -/

variable (X : Dev nD → Vec F S512x4096 .f32) (Wt : Dev nD → Vec F S4096x8192 .f32)

/-- Half `h` of landing buffer `s` on device `d`, at any contents. -/
def rAny (d s : Dev nD) (h : Fin 2) : sProp 𝕄 := iprop(∃ f, rP (F := F) d s h f)
def yAny (c : Dev nD) (k : Fin 7) (h : Fin 2) : sProp 𝕄 := iprop(∃ f, yP (F := F) c k h f)
/-- What device `c` is handed by the entry signal of the device step `k` exchanges with. -/
def barPay (c : Dev nD) (k : Fin 7) : sProp 𝕄 := iprop(rAny (F := F) (peer k c) c 0 ∗ rAny (F := F) (peer k c) c 1)
/-- What it is handed when a half of `s`'s block has landed. -/
def recvPay (c s : Dev nD) (h : Fin 2) : sProp 𝕄 := rP c s h (RV X Wt c)

/-- The duty name of half `h`. -/
def duty (h : Fin 2) : Fin 7 := ⟨h.val, by omega⟩
/-- The half a duty name stands for. -/
def halfOf (d : Fin 7) : Fin 2 := ⟨d.val % 2, Nat.mod_lt _ (by decide)⟩
theorem halfOf_duty (h : Fin 2) : halfOf (duty h) = h := by revert h; decide
theorem duty_01 : (({duty 0, duty 1} : Finset (Fin 7))) = {0, 1} := by decide

def dutiesOf (c : Dev nD) : Kind → Finset (Fin 7)
  | .bar => Finset.univ
  | .send _ _ => {0}
  | .recv s => if s = c then ∅ else {0, 1}
  | .other => ∅
def payOf (c : Dev nD) (d : Fin 7) : Kind → sProp 𝕄
  | .bar => barPay (F := F) c d
  | .send k h => yAny (F := F) c k h
  | .recv s => recvPay X Wt c s (halfOf d)
  | .other => iprop(emp)

instance payOf_storable (c : Dev nD) (d : Fin 7) (κ : Kind) : BI.Storable (upEmb : UEmb _ 𝕄) (payOf X Wt c d κ) := by
  cases κ <;> unfold payOf <;> (try unfold barPay) <;> (try unfold recvPay) <;> (try unfold rAny) <;> (try unfold yAny) <;> infer_instance

/-- The protocol. -/
def Rd : Rounds.Schedule (GSem nD τ sig) (Fin 7) 𝕄 where
  duties g r := if r = 0 ∧ g.1.2 = .tc then dutiesOf g.1.1 (kind g.2) else ∅
  unitless _ := False
  amount g _ _ := if kind g.2 = .bar then 1 else N
  payload g _ d := payOf X Wt g.1.1 d (kind g.2)
  amount_pos g _ _ _ := by
    by_cases h : kind g.2 = .bar
    · rw [if_pos h]; exact Nat.one_pos
    · rw [if_neg h]; exact N_pos

instance Rd_payload_storable (g : GSem nD τ sig) (r : ℕ) (d : Fin 7) :
    BI.Storable (upEmb : UEmb _ 𝕄) ((Rd X Wt).payload g r d) := by
  show BI.Storable upEmb (payOf X Wt g.1.1 d (kind g.2)); infer_instance

section Facts
variable (c s : Dev nD) (k : Fin 7) (h : Fin 2)

theorem duties_tc (sm : SemLoc sig) : (Rd X Wt).duties ((c : Thread nD τ), sm) 0 = dutiesOf c (kind sm) := by dsimp only [Rd]; exact if_pos ⟨rfl, rfl⟩
theorem duties_later (g : GSem nD τ sig) : ∀ r, 1 ≤ r → (Rd X Wt).duties g r = ∅ := fun r hr => by dsimp only [Rd]; exact if_neg fun h => by omega
/-- A device's receive semaphore for itself is never used. -/
theorem duties_own : ∀ r, 0 ≤ r → (Rd X Wt).duties (recvCell c c) r = ∅ := fun r _ => by
  by_cases hr : r = 0
  · subst hr; rw [duties_tc, kind_recv]; exact if_pos rfl
  · exact duties_later X Wt _ r (by omega)

theorem duties_bar : (Rd X Wt).duties (barCell c) 0 = Finset.univ := by rw [duties_tc, kind_bar]; rfl
theorem duties_send : (Rd X Wt).duties (sendCell c k h) 0 = {0} := by rw [duties_tc, kind_send]; rfl
theorem duties_recv (hs : s ≠ c) : (Rd X Wt).duties (recvCell c s) 0 = {duty 0, duty 1} := by
  rw [duties_tc, kind_recv, duty_01]; exact if_neg hs

theorem amount_bar (d : Fin 7) : (Rd X Wt).amount (barCell c) 0 d = 1 := by dsimp only [Rd]; exact if_pos kind_bar
theorem amount_send (d : Fin 7) : (Rd X Wt).amount (sendCell c k h) 0 d = N := by dsimp only [Rd]; exact if_neg (by rw [kind_send]; exact fun h => Kind.noConfusion h)
theorem amount_recv (d : Fin 7) : (Rd X Wt).amount (recvCell c s) 0 d = N := by dsimp only [Rd]; exact if_neg (by rw [kind_recv]; exact fun h => Kind.noConfusion h)

theorem duty_ne : duty 0 ≠ duty 1 := by decide

theorem expect_bar : (Rd X Wt).expect (barCell c) 0 = 7 := by
  unfold Schedule.expect Schedule.amountOf
  rw [duties_bar, Finset.sum_congr rfl fun d _ => amount_bar X Wt c d]; rfl
theorem expect_send : (Rd X Wt).expect (sendCell c k h) 0 = N := by
  unfold Schedule.expect Schedule.amountOf
  rw [duties_send, Finset.sum_singleton, amount_send]
theorem expect_recv (hs : s ≠ c) : (Rd X Wt).expect (recvCell c s) 0 = N + N := by
  unfold Schedule.expect Schedule.amountOf
  rw [duties_recv X Wt c s hs, Finset.sum_pair duty_ne, amount_recv, amount_recv]

theorem payload_bar (d : Fin 7) : (Rd X Wt).payload (barCell c) 0 d = barPay c d := by
  dsimp only [Rd]; rw [kind_bar]; rfl
theorem payload_send (d : Fin 7) : (Rd X Wt).payload (sendCell c k h) 0 d = yAny c k h := by
  dsimp only [Rd]; rw [kind_send]; rfl
theorem payload_recv : (Rd X Wt).payload (recvCell c s) 0 (duty h) = recvPay X Wt c s h := by
  dsimp only [Rd]; rw [kind_recv]; show recvPay X Wt c s (halfOf (duty h)) = _; rw [halfOf_duty]

/-- What a whole round hands over. -/
theorem rest_bar : bigSep ((Rd X Wt).duties (barCell c) 0 \ ∅) (fun d => (Rd X Wt).payload (barCell c) 0 d)
    = bigSep Finset.univ (fun k => barPay (F := F) c k) := by
  rw [Finset.sdiff_empty, duties_bar]
  exact congrArg (bigSep Finset.univ) (funext fun d => payload_bar X Wt c d)
theorem rest_send : bigSep ((Rd X Wt).duties (sendCell c k h) 0 \ ∅) (fun d => (Rd X Wt).payload (sendCell c k h) 0 d) = yAny (F := F) c k h := by
  rw [Finset.sdiff_empty, duties_send, bigSep_singleton, payload_send]
theorem rest_recv (hs : s ≠ c) : bigSep ((Rd X Wt).duties (recvCell c s) 0 \ ∅) (fun d => (Rd X Wt).payload (recvCell c s) 0 d)
    = iprop(recvPay X Wt c s 0 ∗ recvPay X Wt c s 1) := by
  rw [Finset.sdiff_empty, duties_recv X Wt c s hs, bigSep_insert (by rw [Finset.mem_singleton]; exact duty_ne), bigSep_singleton,
    payload_recv, payload_recv]
  rfl

end Facts

/-! ## What is owed, and the levels -/

/-- What device `c` still owes for the sends of the listed steps; each send pays the last summand. -/
def owedRecv (c : Dev nD) : List (Fin 7) → CellTallies nD τ sig Unit
  | [] => 0
  | k :: ks => owedRecv c ks + tallyAt (recvCell (peer k c) c) () N + tallyAt (recvCell (peer k c) c) () N
/-- What it still owes for the entry signals of the listed steps, beside `O`. -/
def owedBar (c : Dev nD) (O : CellTallies nD τ sig Unit) : List (Fin 7) → CellTallies nD τ sig Unit
  | [] => O
  | k :: ks => owedBar c O ks + tallyAt (barCell (peer k c)) () 1
/-- What it owes at launch. -/
def O₀ (c : Dev nD) : CellTallies nD τ sig Unit := owedBar c (owedRecv c steps) steps

def L (g : GSem nD τ sig) : Finset Unit := if g.1.2 = .tc then {()} else ∅
/-- Barrier below receive; everything else at the bottom. -/
def lvK : Kind → ℕ
  | .bar => 1
  | .recv _ => 2
  | _ => 0
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl

/-- All that `O` owes is owed to cells above level `b`. -/
def Above (b : ℕ) (O : CellTallies nD τ sig Unit) : Prop := ∀ g u, 0 < O g u → () ∈ L g ∧ b < lv g u

theorem above_zero (b : ℕ) : Above b 0 := fun g u h => absurd h (by show ¬ 0 < 0; decide)
theorem above_add {b : ℕ} {O₁ O₂ : CellTallies nD τ sig Unit} (h₁ : Above b O₁) (h₂ : Above b O₂) : Above b (O₁ + O₂) := fun g u h => by
  rw [Pi.add_apply, Finsupp.add_apply] at h
  by_cases h' : 0 < O₁ g u
  · exact h₁ g u h'
  · exact h₂ g u (by omega)
theorem above_tally {b : ℕ} (c : Dev nD) (sm : SemLoc sig) (n : ℕ) (h : b < lvK (kind sm)) :
    Above b (tallyAt ((c : Thread nD τ), sm) () n) := fun g u hg => by
  rw [tallyAt_apply] at hg
  by_cases hc : g = ((c : Thread nD τ), sm) ∧ u = ()
  · rw [hc.1]; exact ⟨by rw [L_tc]; exact Finset.mem_singleton_self _, h⟩
  · rw [if_neg hc] at hg; exact absurd hg (Nat.lt_irrefl 0)
theorem above_recv {b : ℕ} (hb : b < 2) (d c : Dev nD) (n : ℕ) : Above b (tallyAt (recvCell d c) () n) :=
  above_tally d _ n (by rw [kind_recv]; exact hb)
theorem above_owedRecv {b : ℕ} (hb : b < 2) (c : Dev nD) : ∀ ks, Above b (owedRecv c ks)
  | [] => above_zero b
  | k :: ks => above_add (above_add (above_owedRecv hb c ks) (above_recv hb _ _ _)) (above_recv hb _ _ _)
theorem above_owedBar (c : Dev nD) {O : CellTallies nD τ sig Unit} (hO : Above 0 O) : ∀ ks, Above 0 (owedBar c O ks)
  | [] => hO
  | k :: ks => above_add (above_owedBar c hO ks) (above_tally _ _ _ (by rw [kind_bar]; decide))

/-- A device may wait on a semaphore no higher than all it owes. -/
theorem mayWait (c : Dev nD) (sm : SemLoc sig) (b : ℕ) (hb : lvK (kind sm) ≤ b) {O : CellTallies nD τ sig Unit} (hO : Above b O) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by cases u; exact (hO g () hg).1)
    (fun p hp => by rw [Finset.mem_singleton.mp hp]; exact hb)
    (fun g u hg => (hO g u hg).2)

end Cert.SiluA2A

end
-- ==== Proof.Moves.lean ====
/-
# What each local step does to the buffers

One rule per kind of step that touches this device only: fetching weight columns, loading, storing a computed block, and
the copies out of the stage buffers. Each rule says which pieces of the buffers the step needs and what it leaves.
-/
module

public import proofs.«01_k».proof.Proof.Schedule

@[expose] public section

noncomputable section

namespace Cert.SiluA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running `K` on device `c` ends in `Q`. -/
abbrev runs (c : Dev nD) (K : P F) (Q : PUnit → sProp 𝕄) : sProp 𝕄 :=
  wp frame (wpE (defs₀ (F := F)) 𝒱₀ (c : Thread nD τ) none) Set.univ K Q

/-- Device `c` owes `O`. -/
def owed (c : Dev nD) (O : CellTallies nD τ sig Unit) : sProp 𝕄 := iprop(∃ W, owes (c : Thread nD τ) O W)

variable (X : Dev nD → Vec F S512x4096 .f32) (Wt : Dev nD → Vec F S4096x8192 .f32)
variable (c : Dev nD) (Q : PUnit → sProp (MT nD τ sig Unit (Elt F) ℕ UU ℕ))

/-! ## The pieces -/

/-- Weight buffer `h`. -/
def wP (h : Fin 2) (f : Vec F S2x4096x512 .f32) : sProp 𝕄 := ((c : Thread nD τ).loc cc0_scratch0) ↦[wS h]{fullShare} f
/-- Stage buffer `h`. -/
def sP (h : Fin 2) (f : Vec F S2x512x1024 .f32) : sProp 𝕄 := ((c : Thread nD τ).loc cc0_scratch3) ↦[sS h]{fullShare} f
/-- The device's rows. -/
def xP : sProp 𝕄 := ((c : Thread nD τ).loc cc0_stg0_0) ↦{fullShare} X c
/-- The share of the weight that weight buffer `h` is filled from. -/
def wShare : Fin 2 → PosShare TreeShare
  | 0 => fullShare.left
  | 1 => fullShare.right
def wA (h : Fin 2) : sProp 𝕄 := ((c : Thread nD τ).loc main_arg1) ↦{wShare h} Wt c
/-- Weight buffer `h` idle. -/
def wIdle (h : Fin 2) : sProp 𝕄 := iprop((∃ f, wP (F := F) c h f) ∗ semVal ((c : Thread nD τ), .dma (wSem h)) 0 ∗ wA Wt c h)
/-- Weight buffer `h` holding target `t`'s columns. -/
def wHas (t : Option (Fin 7)) (h : Fin 2) : sProp 𝕄 :=
  iprop(∃ f, ⌜bM.view.readAt (Elt F) (wRect h).toLoadRect f = wblk (Wt c) (tgt c t) h⌝ ∗ wP (F := F) c h f)
def wReady (t : Option (Fin 7)) (h : Fin 2) : sProp 𝕄 :=
  iprop(wHas Wt c t h ∗ semVal ((c : Thread nD τ), .dma (wSem h)) 0 ∗ wA Wt c h)
abbrev wCols (t : Option (Fin 7)) (h : Fin 2) : Finset S4096x8192.Idx := (wSrc c t h).view.set
abbrev NW : ℕ := (wBuf 0).view.dmaCredit
theorem NW_pos : 0 < NW := View.dmaCredit_pos _ (by decide)
/-- Weight buffer `h` being filled with target `t`'s columns. -/
def wBusy (t : Option (Fin 7)) (h : Fin 2) : sProp 𝕄 :=
  iprop(Transfers.Flight EC (c : Thread nD τ) (.dma (wSem h)) () NW
      iprop(wHas Wt c t h ∗ (((c : Thread nD τ).loc main_arg1) ↦[wCols c t h]{wShare h} Wt c))
    ∗ (((c : Thread nD τ).loc main_arg1) ↦[Finset.univ \ wCols c t h]{wShare h} Wt c))

/-! ## Fetching weight columns -/

/-- Starting the copy of target `t`'s columns. -/
theorem run_copyW (t : Option (Fin 7)) (h : Fin 2) (K : P F) :
    wIdle Wt c h ⊢ iprop((wBusy Wt c t h -∗ runs c K Q) -∗ runs c (stCopyW c t h K) Q) := by
  unfold wIdle wA stCopyW
  iintro ⟨⟨%f, Hf⟩, Hv, HA⟩ Hk
  ihave HA := (pointsTo_split_subset (Finset.subset_univ (wCols c t h))).1 $$ HA
  icases HA with ⟨HA, HR⟩
  iapply (Transfers.wp_dmaLocal EC 𝒱₀ (c : Thread nD τ) none (src := wSrc c t h) (dst := wBuf h) (sm := .dma (wSem h))
      (q := wShare h) (fs := Wt c) (Sd := wS h) (fd := f) () NW rfl NW_pos (by rw [← set_wBuf])) $$ [HA Hf Hv]
  · isplitl [HA]; · iexact HA
    isplitl [Hf]; · unfold wP; iexact Hf
    iexact Hv
  iintro HF
  iapply Hk
  unfold wBusy
  isplitl [HF]
  · iapply (Transfers.Flight_mono EC (c : Thread nD τ) (D := iprop(_ ∗ _)) (sep_mono_left ?_)) $$ HF
    unfold wHas wP
    iintro H
    iexists _
    isplitr
    · ipureintro; exact load_w c t h f (Wt c)
    iexact H
  · iexact HR

/-- Waiting for it. -/
theorem run_waitW (t : Option (Fin 7)) (h : Fin 2) (K : P F) {O : CellTallies nD τ sig Unit} (hO : Above 0 O) :
    iprop(levAts L lv ∗ wBusy Wt c t h ∗ owed c O)
      ⊢ iprop(((wReady Wt c t h ∗ owed c O) -∗ runs c K Q) -∗ runs c (stWaitW c t h K) Q) := by
  unfold wBusy stWaitW owed
  iintro ⟨#Hlev, ⟨HF, HR⟩, %W, HO⟩ Hk
  iapply (Transfers.wp_waitLocalO EC 𝒱₀ (c : Thread nD τ) none (srcw := wSrc c t h) (dstw := wBuf h)
      (hsrc := View.wordExact_bits rfl) (hdst := (View.wordExact_bits rfl).reshape _ _) () (N := NW) rfl (O := O) (W := W)) $$ [HF HO]
  · isplitl [HF]; · iexact HF
    isplitl [HO]; · iexact HO
    iapply (mayWait c (.dma (wSem h)) 0 (by rw [kind_w]; exact le_refl _) hO); iexact Hlev
  iintro ⟨⟨HW, HA⟩, Hv, HO⟩
  iapply Hk
  unfold wReady wA
  isplitr [HO]
  · isplitl [HW]; · iexact HW
    isplitl [Hv]; · iexact Hv
    iapply (pointsTo_split_subset (Finset.subset_univ (wCols c t h))).2
    isplitl [HA]; · iexact HA
    iexact HR
  · iexists _; iexact HO

/-- Loading the rows and the fetched columns. -/
theorem run_load (t : Option (Fin 7)) (h : Fin 2) (K : Vec F S512x4096 .f32 → Vec F S1x4096x512 .f32 → P F) :
    iprop(xP X c ∗ wReady Wt c t h)
      ⊢ iprop(((xP X c ∗ wIdle Wt c h) -∗ runs c (K (X c) (wblk (Wt c) (tgt c t) h)) Q) -∗ runs c (stLoad h K) Q) := by
  unfold wReady wHas stLoad xP wP
  iintro ⟨Hx, ⟨%f, %hf, Hf⟩, Hv, HA⟩ Hk
  iapply (wp_load 𝒱₀ (c : Thread nD τ) none Set.univ (m := xM) (Finset.subset_univ _)) $$ Hx; iintro Hx
  iapply (wp_load_rect 𝒱₀ (c : Thread nD τ) none Set.univ (m := bM) (r := wRect h) (S := wS h) (by rw [← set_wRect])) $$ Hf; iintro Hf
  rw [load_x (X c), show (bM.access (wRect h)).read (Elt F) f = wblk (Wt c) (tgt c t) h from hf]
  iapply Hk
  isplitl [Hx]; · iexact Hx
  unfold wIdle wP
  isplitl [Hf]; · iexists f; iexact Hf
  isplitl [Hv]; · iexact Hv
  iexact HA

/-! ## Storing a block to be sent -/

/-- Storing `v` into half `h` of send buffer `k`. -/
theorem run_put (k : Fin 7) (h : Fin 2) (v : FVec F S1x512x512 .bf16) (K : P F) :
    yAny (F := F) c k h
      ⊢ iprop(((∃ f, yP c k h ((yM.access (yRect k h)).write (Elt F) f v Finset.univ)) -∗ runs c K Q) -∗ runs c (stPut k h v K) Q) := by
  unfold yAny yP stPut
  iintro ⟨%f, Hf⟩ Hk
  iapply (wp_load_rect 𝒱₀ (c : Thread nD τ) none Set.univ (m := yM) (r := yRect k h) (S := yS k h) (by rw [← set_yRect])) $$ Hf; iintro Hf
  iapply (wp_store 𝒱₀ (c : Thread nD τ) none Set.univ (m := yM) (r := yRect k h) (Mk := Finset.univ) (S := yS k h)
    (by rw [View.setOn_univ, ← set_yRect])) $$ Hf; iintro Hf
  iapply Hk
  iexists f; iexact Hf

/-! ## The copies out of the stage buffers -/

/-- Stage buffer `s` idle. -/
def sIdle (s : Fin 2) : sProp 𝕄 := iprop((∃ f, sP (F := F) c s f) ∗ semVal ((c : Thread nD τ), .dma (sSem s)) 0)
/-- The entries of the result a copy out fills. -/
def outSet : Out → Finset S4096x1024.Idx
  | .own h => oS c h
  | .dr k _ => oS (peer k c) 0 ∪ oS (peer k c) 1
/-- Entries of the result on device `c`. -/
def oP (S : Finset S4096x1024.Idx) (f : Vec F S4096x1024 .f32) : sProp 𝕄 := ((c : Thread nD τ).loc main_v1) ↦[S]{fullShare} f
/-- They hold what they should. -/
def outDone (p : Out) : sProp 𝕄 := oP c (outSet c p) (OUT X Wt c)
def outAny (p : Out) : sProp 𝕄 := iprop(∃ f, oP (F := F) c (outSet c p) f)
/-- The part of the stage buffer a copy out reads. -/
def fromSet : Out → Finset S2x512x1024.Idx
  | .own h => (sHalf h).view.set
  | .dr _ s => (sBuf s).view.set
def creditOf : Out → ℕ
  | .own h => (oOwn c h).view.dmaCredit
  | .dr k _ => (oBlk c k).view.dmaCredit
theorem creditOf_pos : ∀ p, 0 < creditOf c p
  | .own _ => View.dmaCredit_pos _ (by decide)
  | .dr _ _ => View.dmaCredit_pos _ (by decide)
theorem fromSet_sub : ∀ p : Out, fromSet p ⊆ sS p.slot
  | .own h => set_sHalf h
  | .dr _ s => by unfold fromSet Out.slot; rw [← set_sBuf]
/-- A copy out under way. -/
def outBusy (p : Out) : sProp 𝕄 :=
  iprop(Transfers.Flight EC (c : Thread nD τ) (.dma (sSem p.slot)) () (creditOf c p)
      iprop(outDone X Wt c p ∗ ∃ f : Vec F S2x512x1024 .f32, (((c : Thread nD τ).loc cc0_scratch3) ↦[fromSet p]{fullShare} f))
    ∗ ∃ f : Vec F S2x512x1024 .f32, (((c : Thread nD τ).loc cc0_scratch3) ↦[sS p.slot \ fromSet p]{fullShare} f))

/-- Staging the device's own block and starting its copy out. -/
theorem run_own (h : Fin 2) (K : P F) :
    iprop(sIdle (F := F) c h ∗ outAny (F := F) c (.own h))
      ⊢ iprop((outBusy X Wt c (.own h) -∗ runs c K Q) -∗ runs c (stOwn c h (oSt (X c) (wblk (Wt c) c h)) K) Q) := by
  unfold sIdle outAny sP oP stOwn
  iintro ⟨⟨⟨%fs, Hs⟩, Hv⟩, %fo, Ho⟩ Hk
  iapply (wp_load_rect 𝒱₀ (c : Thread nD τ) none Set.univ (m := sM) (r := sHalfRect h) (S := sS h) (set_sHalfRect h)) $$ Hs; iintro Hs
  iapply (wp_store 𝒱₀ (c : Thread nD τ) none Set.univ (m := sM) (r := sHalfRect h) (Mk := Finset.univ) (S := sS h)
    (by rw [View.setOn_univ]; exact set_sHalfRect h)) $$ Hs; iintro Hs
  ihave Hs := (pointsTo_split_subset (fromSet_sub (.own h))).1 $$ Hs
  icases Hs with ⟨Hs, HR⟩
  iapply (Transfers.wp_dmaLocal EC 𝒱₀ (c : Thread nD τ) none (src := sHalf h) (dst := oOwn c h) (sm := .dma (sSem h))
      (q := fullShare) (Sd := oS c h) (fd := fo) () (creditOf c (.own h)) rfl (creditOf_pos c _) (by rw [← set_oOwn])) $$ [Hs Ho Hv]
  · isplitl [Hs]; · iexact Hs
    isplitl [Ho]; · iexact Ho
    iexact Hv
  iintro HF
  iapply Hk
  unfold outBusy
  isplitl [HF]
  · iapply (Transfers.Flight_mono EC (c : Thread nD τ) (sep_mono (Entails.of_eq ?_) ?_)) $$ HF
    unfold outDone oP outSet
    exact pointsTo_congr fun i hi => own_out X Wt c h fo fs i hi
    iintro H; iexists _; iexact H
  · iexists _; iexact HR

/-- Staging the widened block of drain `k` and starting its copy out. -/
theorem run_stage (k : Fin 7) (s : Fin 2) (K : P F) :
    iprop(sIdle (F := F) c s ∗ outAny (F := F) c (.dr k s))
      ⊢ iprop((outBusy X Wt c (.dr k s) -∗ runs c K Q) -∗ runs c
          (.op (.load sM (sRect s).toLoadRect (View.loadsAt_vmem h_S1x512x1024)) fun _ =>
            .op (.store sM (sRect s) (dSt (rM.view.readAt (Elt F) (rRect c k).toLoadRect (RV X Wt c))) Finset.univ
              (View.stores_vmem_bits_univ h_S1x512x1024 rfl) (.inl rfl)) fun _ =>
            .op (.enqueueDma (sBuf s) (.here (oBlk c k)) (.dma (sSem s)) ((View.wordExact_bits rfl).reshape _ _)
              (View.wordExact_bits rfl) ⟨Or.inl rfl, trivial⟩) fun _ => K) Q) := by
  unfold sIdle outAny sP oP
  iintro ⟨⟨⟨%fs, Hs⟩, Hv⟩, %fo, Ho⟩ Hk
  iapply (wp_load_rect 𝒱₀ (c : Thread nD τ) none Set.univ (m := sM) (r := sRect s) (S := sS s) (by rw [← set_sRect])) $$ Hs; iintro Hs
  iapply (wp_store 𝒱₀ (c : Thread nD τ) none Set.univ (m := sM) (r := sRect s) (Mk := Finset.univ) (S := sS s)
    (by rw [View.setOn_univ, ← set_sRect])) $$ Hs; iintro Hs
  ihave Hs := (pointsTo_split_subset (fromSet_sub (.dr k s))).1 $$ Hs
  icases Hs with ⟨Hs, HR⟩
  iapply (Transfers.wp_dmaLocal EC 𝒱₀ (c : Thread nD τ) none (src := sBuf s) (dst := oBlk c k) (sm := .dma (sSem s))
      (q := fullShare) (Sd := outSet c (.dr k s)) (fd := fo) () (creditOf c (.dr k s)) rfl (creditOf_pos c _)
      (set_oBlk c k).le) $$ [Hs Ho Hv]
  · isplitl [Hs]; · iexact Hs
    isplitl [Ho]; · iexact Ho
    iexact Hv
  iintro HF
  iapply Hk
  unfold outBusy
  isplitl [HF]
  · iapply (Transfers.Flight_mono EC (c : Thread nD τ) (sep_mono (Entails.of_eq ?_) ?_)) $$ HF
    unfold outDone oP outSet
    exact pointsTo_congr fun i hi => drain_out X Wt c k s fo fs i hi
    iintro H; iexists _; iexact H
  · iexists _; iexact HR

/-- What is left of a copy out that has finished. -/
theorem out_back (p : Out) :
    iprop((∃ f : Vec F S2x512x1024 .f32, (((c : Thread nD τ).loc cc0_scratch3) ↦[fromSet p]{fullShare} f))
      ∗ ∃ f : Vec F S2x512x1024 .f32, (((c : Thread nD τ).loc cc0_scratch3) ↦[sS p.slot \ fromSet p]{fullShare} f))
    ⊢ (∃ f, sP (F := F) c p.slot f : sProp 𝕄) := by
  unfold sP
  iintro ⟨⟨%f, Hf⟩, %g, Hg⟩
  iexists _
  iapply (pointsTo_join_subset (fromSet_sub p))
  isplitl [Hf]; · iexact Hf
  iexact Hg

/-- Waiting for a copy out. -/
theorem run_outWait (p : Out) (K : P F) :
    iprop(outBusy X Wt c p ∗ owed c 0)
      ⊢ iprop(((sIdle (F := F) c p.slot ∗ outDone X Wt c p ∗ owed c 0) -∗ runs c K Q) -∗ runs c (stOutWait c p K) Q) := by
  unfold outBusy owed
  iintro ⟨⟨HF, HR⟩, %W, HO⟩ Hk
  have hwait : iprop((outDone X Wt c p ∗ ∃ f : Vec F S2x512x1024 .f32, (((c : Thread nD τ).loc cc0_scratch3) ↦[fromSet p]{fullShare} f))
      ∗ semVal ((c : Thread nD τ), .dma (sSem p.slot)) 0 ∗ owes (c : Thread nD τ) 0 (insert (SemLoc.dma (sSem p.slot), ()) W)
      ∗ (∃ f : Vec F S2x512x1024 .f32, (((c : Thread nD τ).loc cc0_scratch3) ↦[sS p.slot \ fromSet p]{fullShare} f))
      ∗ ((sIdle (F := F) c p.slot ∗ outDone X Wt c p ∗ (∃ W, owes (c : Thread nD τ) 0 W)) -∗ runs c K Q)) ⊢ runs c K Q := by
    iintro ⟨⟨HD, Hf⟩, Hv, HO, HR, Hk⟩
    iapply Hk
    unfold sIdle
    isplitl [Hf HR Hv]
    · isplitl [Hf HR]
      · iapply (out_back c p); isplitl [Hf] <;> iassumption
      · iexact Hv
    isplitl [HD]; · iexact HD
    iexists _; iexact HO
  cases p with
  | own h =>
    unfold stOutWait
    iapply (Transfers.wp_waitLocalO EC 𝒱₀ (c : Thread nD τ) none (srcw := sHalf h) (dstw := oOwn c h)
      (hsrc := (View.wordExact_bits rfl).reshape _ _) (hdst := View.wordExact_bits rfl) () (N := creditOf c (.own h)) rfl (O := 0) (W := W)) $$ [HF HO]
    · isplitl [HF]; · iexact HF
      isplitl [HO]; · iexact HO
      rw [MayWait_zero]; iempintro
    iintro ⟨HD, Hv, HO⟩
    iapply hwait
    isplitl [HD]; · iexact HD
    isplitl [Hv]; · iexact Hv
    isplitl [HO]; · iexact HO
    isplitl [HR] <;> iassumption
  | dr k s =>
    unfold stOutWait
    iapply (Transfers.wp_waitLocalO EC 𝒱₀ (c : Thread nD τ) none (srcw := sBuf s) (dstw := oBlk c k)
      (hsrc := (View.wordExact_bits rfl).reshape _ _) (hdst := View.wordExact_bits rfl) () (N := creditOf c (.dr k s)) rfl (O := 0) (W := W)) $$ [HF HO]
    · isplitl [HF]; · iexact HF
      isplitl [HO]; · iexact HO
      rw [MayWait_zero]; iempintro
    iintro ⟨HD, Hv, HO⟩
    iapply hwait
    isplitl [HD]; · iexact HD
    isplitl [Hv]; · iexact Hv
    isplitl [HO]; · iexact HO
    isplitl [HR] <;> iassumption

end Cert.SiluA2A

end
-- ==== Proof.Exchange.lean ====
/-
# What each exchanging step needs and leaves

One rule per kind of step that touches another device: the entry signals and the wait for all of them, the sends, the
drains and the waits for the copies that left. Every cell's invariant and the level facts are known to every device
(`ctx`).
-/
module

public import proofs.«01_k».proof.Proof.Moves

@[expose] public section

noncomputable section

namespace Cert.SiluA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells, listed -/

/-- A device's cells: its barrier cell, its fourteen send cells, its eight receive cells. -/
abbrev CI : Type := Unit ⊕ (Fin 7 × Fin 2) ⊕ Dev nD
def csem : CI → SemLoc sig
  | .inl _ => .reg barS
  | .inr (.inl (k, h)) => .dma (sendSem k h)
  | .inr (.inr s) => .dma (recvSem s)
abbrev cellAt (p : Dev nD × CI) : GSem nD τ sig := ((p.1 : Thread nD τ), csem p.2)

variable (X : Dev nD → Vec F S512x4096 .f32) (Wt : Dev nD → Vec F S4096x8192 .f32)
variable (κ : Dev nD × CI → ℕ)
variable (c : Dev nD) (Q : PUnit → sProp (MT nD τ sig Unit (Elt F) ℕ UU ℕ))

/-- What every device knows: all the invariants, that every cell has reached its round, and the levels. -/
def ctx : sProp 𝕄 :=
  iprop((bigSep Finset.univ fun p : Dev nD × CI => cellInv ER (Rd X Wt) (κ p) (cellAt p))
    ∗ (bigSep Finset.univ fun p : Dev nD × CI => reached ER (cellAt p) 0) ∗ levAts L lv)

instance ctx_persistent : BI.Persistent (ctx X Wt κ) := by unfold ctx; infer_instance

theorem ctx_inv (p : Dev nD × CI) : ctx X Wt κ ⊢ cellInv ER (Rd X Wt) (κ p) (cellAt p) := by
  unfold ctx
  refine BIBase.Entails.trans (Q := bigSep Finset.univ fun p : Dev nD × CI => cellInv ER (Rd X Wt) (κ p) (cellAt p)) ?_ (bigSep_elim (Finset.mem_univ p))
  iintro ⟨H, -, -⟩; iexact H
theorem ctx_reached (p : Dev nD × CI) : ctx X Wt κ ⊢ (reached ER (cellAt p) 0 : sProp 𝕄) := by
  unfold ctx
  refine BIBase.Entails.trans (Q := bigSep Finset.univ fun p : Dev nD × CI => (reached ER (cellAt p) 0 : sProp 𝕄)) ?_ (bigSep_elim (Finset.mem_univ p))
  iintro ⟨-, H, -⟩; iexact H
theorem ctx_lev : ctx X Wt κ ⊢ levAts L lv := by
  unfold ctx
  iintro ⟨-, -, H⟩
  iexact H

abbrev iBar (d : Dev nD) : Dev nD × CI := (d, .inl ())
abbrev iSend (d : Dev nD) (k : Fin 7) (h : Fin 2) : Dev nD × CI := (d, .inr (.inl (k, h)))
abbrev iRecv (d s : Dev nD) : Dev nD × CI := (d, .inr (.inr s))

/-! ## Entering -/

/-- Telling the peer of step `k` that this device has entered, and lending it the landing buffer it will send into. -/
theorem run_signal (k : Fin 7) (K : P F) (O : CellTallies nD τ sig Unit) :
    iprop(ctx X Wt κ ∗ (dutyTok ER (barCell (peer k c)) 0 k ∗ rAny (F := F) c (peer k c) 0 ∗ rAny (F := F) c (peer k c) 1)
        ∗ owed c (O + tallyAt (barCell (peer k c)) () 1))
      ⊢ iprop((owed c O -∗ runs c K Q) -∗ runs c (stSignal c k K) Q) := by
  unfold stSignal owed
  iintro ⟨#HC, ⟨Ht, H0, H1⟩, %W, HO⟩ Hk
  iapply (Rounds.wp_signal 𝒱₀ ER (Rd X Wt) (c : Thread nD τ) none (dst := (peer k c : Thread nD τ)) (κ := κ (iBar (peer k c)))
      (d := k) (by rw [duties_bar]; exact Finset.mem_univ _) ((amount_bar X Wt (peer k c) k).trans (by decide)) () O rfl)
    $$ [HO Ht H0 H1]
  · isplitr; · iapply (ctx_inv X Wt κ (iBar (peer k c))); iexact HC
    isplitl [HO]; · iexact HO
    isplitl [Ht]; · iexact Ht
    isplitl [H0 H1]
    · rw [payload_bar]; unfold barPay; rw [peer_peer]; isplitl [H0] <;> iassumption
    iapply (ctx_reached X Wt κ (iBar (peer k c))); iexact HC
  iintro HO
  iapply Hk
  iexists _; iexact HO

/-- Waiting for all seven: each lends the landing buffer this device will send into. -/
theorem run_barrier (K : P F) (O : CellTallies nD τ sig Unit) (hO : Above 1 O) :
    iprop(ctx X Wt κ ∗ (atPos ER (barCell c) 0 ∅ 0 ∗ cred (tallyAt (barCell c) () 7)) ∗ owed c O)
      ⊢ iprop(((atPos ER (barCell c) 1 ∅ 0 ∗ (bigSep Finset.univ fun k => barPay (F := F) c k) ∗ owed c O) -∗ runs c K Q)
          -∗ runs c (stBarrier K) Q) := by
  unfold stBarrier owed
  iintro ⟨#HC, ⟨Hat, Hcr⟩, %W, HO⟩ Hk
  iapply (Rounds.wp_wait_rest_token 𝒱₀ ER (Rd X Wt) (c : Thread nD τ) none (κ := κ (iBar c))
      (wpE_semWait_eq 𝒱₀ (c : Thread nD τ) none Set.univ) (Set.mem_univ _) () (O := O) (W := W) (R := 0) (m := 0) (T := ∅)
      (by rw [expect_bar]; decide)) $$ [Hcr HO Hat]
  · isplitr; · iapply (ctx_inv X Wt κ (iBar c)); iexact HC
    isplitl [Hcr]; · iexact Hcr
    isplitl [HO]; · iexact HO
    isplitr
    · iapply (mayWait c (.reg barS) 1 (by rw [kind_bar]; exact le_refl _) hO)
      iapply (ctx_lev X Wt κ); iexact HC
    iexact Hat
  iintro ⟨HO, Hat, -, Hpay⟩
  iapply Hk
  isplitl [Hat]; · iexact Hat
  isplitl [Hpay]; · iapply (Entails.of_eq (rest_bar X Wt c)); iexact Hpay
  iexists _; iexact HO

/-! ## Sending -/

/-- What sending half `h` of step `k` takes, beside the block itself. -/
def sendToks (k : Fin 7) (h : Fin 2) : sProp 𝕄 :=
  iprop(rAny (F := F) (peer k c) c h ∗ dutyTok ER (sendCell c k h) 0 0 ∗ dutyTok ER (recvCell (peer k c) c) 0 (duty h))
/-- What is left: the right to wait until it has left. -/
def sentTok (k : Fin 7) (h : Fin 2) : sProp 𝕄 := cred (tallyAt (sendCell c k h) () N)

theorem duty_mem (h : Fin 2) : duty h ∈ ({duty 0, duty 1} : Finset (Fin 7)) := by revert h; decide

/-- Sending half `h` of step `k`, once the block for the peer has been stored: it lands as `RV` says. -/
theorem run_send (k : Fin 7) (h : Fin 2) (K : P F) (O : CellTallies nD τ sig Unit) :
    iprop(ctx X Wt κ
        ∗ (∃ f, yP c k h ((yM.access (yRect k h)).write (Elt F) f (ySt (X c) (wblk (Wt c) (peer k c) h)) Finset.univ))
        ∗ sendToks (F := F) c k h ∗ owed c (O + tallyAt (recvCell (peer k c) c) () N))
      ⊢ iprop(((sentTok (F := F) c k h ∗ owed c O) -∗ runs c K Q) -∗ runs c (stSend c k h K) Q) := by
  unfold stSend owed sendToks sentTok rAny
  iintro ⟨#HC, ⟨%f, Hy⟩, ⟨⟨%fd, Hr⟩, HtS, HtR⟩, %W, HO⟩ Hk
  iapply (Rounds.wp_send_pointsTo 𝒱₀ ER (Rd X Wt) (c : Thread nD τ) none (κ₁ := κ (iSend c k h)) (κ₂ := κ (iRecv (peer k c) c))
    (src := yHalf k h) (dst := rHalf c h) (c' := (peer k c : Thread nD τ)) (sS := .dma (sendSem k h)) (sem := .dma (recvSem c))
    (q := fullShare) (fs := (yM.access (yRect k h)).write (Elt F) f (ySt (X c) (wblk (Wt c) (peer k c) h)) Finset.univ)
    (r₁ := 0) (r₂ := 0) (d₁ := 0) (d₂ := duty h) (fd := fd)
    (by rw [duties_send]; exact Finset.mem_singleton_self _)
    (by rw [duties_recv X Wt (peer k c) c (peer_ne k c).symm]; exact duty_mem h)
    () () N rfl (amount_send X Wt c k h 0) (amount_recv X Wt (peer k c) c (duty h)) O rfl (W := W)
    ?_ ?_) $$ [Hy Hr HO HtS HtR]
  · rw [payload_send]
    unfold yAny yP
    iintro H; iexists _
    iapply (Entails.of_eq (congrArg (fun S : Finset S7x512x1024.Idx => (((c : Thread nD τ).loc cc0_scratch1) ↦[S]{fullShare} _ : sProp 𝕄)) (set_yHalf k h))); iexact H
  · rw [payload_recv]
    unfold recvPay rP
    refine (Entails.of_eq (congrArg (fun S : Finset S8x512x1024.Idx => (((peer k c : Dev nD) : Thread nD τ).loc cc0_scratch2 ↦[S]{fullShare} _ : sProp 𝕄)) (set_rHalf c h))).trans (Entails.of_eq ?_)
    exact pointsTo_congr fun i hi => send_lands X Wt c k h fd f i hi
  · isplitr; · iapply (ctx_inv X Wt κ (iSend c k h)); iexact HC
    isplitr; · iapply (ctx_inv X Wt κ (iRecv (peer k c) c)); iexact HC
    isplitl [Hy]
    · unfold yP
      iapply (Entails.of_eq (congrArg (fun S : Finset S7x512x1024.Idx => (((c : Thread nD τ).loc cc0_scratch1) ↦[S]{fullShare} _ : sProp 𝕄)) (set_yHalf k h).symm)); iexact Hy
    isplitl [Hr]
    · unfold rP
      iapply (Entails.of_eq (congrArg (fun S : Finset S8x512x1024.Idx => (((peer k c : Dev nD) : Thread nD τ).loc cc0_scratch2 ↦[S]{fullShare} fd : sProp 𝕄)) (set_rHalf c h).symm)); iexact Hr
    isplitl [HO]; · iexact HO
    isplitl [HtS]; · iexact HtS
    isplitr; · iapply (ctx_reached X Wt κ (iSend c k h)); iexact HC
    isplitl [HtR]; · iexact HtR
    iapply (ctx_reached X Wt κ (iRecv (peer k c) c)); iexact HC
  iintro ⟨Hcr, HO⟩
  iapply Hk
  isplitl [Hcr]; · iexact Hcr
  iexists _; iexact HO

/-- Waiting until half `h` of send buffer `k` has left: the buffer is back. -/
theorem run_sent (k : Fin 7) (h : Fin 2) (K : P F) :
    iprop(ctx X Wt κ ∗ (atPos ER (sendCell c k h) 0 ∅ 0 ∗ sentTok (F := F) c k h) ∗ owed c 0)
      ⊢ iprop((((atPos ER (sendCell c k h) 1 ∅ 0 ∗ yAny (F := F) c k h) ∗ owed c 0) -∗ runs c K Q) -∗ runs c (stSent c k h K) Q) := by
  unfold stSent owed sentTok
  iintro ⟨#HC, ⟨Hat, Hcr⟩, %W, HO⟩ Hk
  iapply (Rounds.wp_wait_rest_token 𝒱₀ ER (Rd X Wt) (c : Thread nD τ) none (κ := κ (iSend c k h))
      (wpE_waitDma2_eq 𝒱₀ (c : Thread nD τ) none Set.univ) (Set.mem_univ _) () (O := 0) (W := W) (R := 0) (m := 0) (T := ∅)
      (by rw [Nat.zero_add, expect_send])) $$ [Hcr HO Hat]
  · isplitr; · iapply (ctx_inv X Wt κ (iSend c k h)); iexact HC
    isplitl [Hcr]; · iexact Hcr
    isplitl [HO]; · iexact HO
    isplitr; · rw [MayWait_zero]; iempintro
    iexact Hat
  iintro ⟨HO, Hat, -, Hpay⟩
  iapply Hk
  isplitr [HO]
  · isplitl [Hat]; · iexact Hat
    iapply (Entails.of_eq (rest_send X Wt c k h)); iexact Hpay
  iexists _; iexact HO

/-! ## Draining -/

/-- What drain `k` waits with. -/
def drainTok (k : Fin 7) : sProp 𝕄 :=
  iprop(atPos ER (recvCell c (peer k c)) 0 ∅ 0 ∗ cred (tallyAt (recvCell c (peer k c)) () (N + N)))
/-- What it leaves: the cell at its end and the landing buffer. -/
def drained (k : Fin 7) : sProp 𝕄 :=
  iprop(atPos ER (recvCell c (peer k c)) 1 ∅ 0 ∗ rAny (F := F) c (peer k c) 0 ∗ rAny (F := F) c (peer k c) 1)

theorem rP_join (s : Dev nD) (f : Vec F S8x512x1024 .bf16) :
    (((c : Thread nD τ).loc cc0_scratch2) ↦[rS s 0 ∪ rS s 1]{fullShare} f : sProp 𝕄) ⊣⊢ iprop(rP c s 0 f ∗ rP c s 1 f) := by
  unfold rP
  exact pointsTo_union (rS_disj (p := (s, 0)) (p' := (s, 1)) (fun h => absurd (congrArg Prod.snd h) (by show ¬ (0 : Fin 2) = 1; decide)))

/-- Drain `k`, the stage buffer that the copy `p` leaves. -/
theorem run_drain (k : Fin 7) (p : Out) (K : P F) :
    iprop(ctx X Wt κ ∗ drainTok (F := F) c k ∗ outAny (F := F) c (.dr k p.slot) ∗ outBusy X Wt c p ∗ owed c 0)
      ⊢ iprop(((drained (F := F) c k ∗ outDone X Wt c p ∗ outBusy X Wt c (.dr k p.slot) ∗ owed c 0) -∗ runs c K Q)
          -∗ runs c (stDrain c k p K) Q) := by
  unfold stDrain drainTok
  rw [drainSem_eq]
  iintro ⟨#HC, ⟨Hat, Hcr⟩, Hout, Hbusy, HO⟩ Hk
  unfold owed
  icases HO with ⟨%W, HO⟩
  iapply (Rounds.wp_wait_rest_token 𝒱₀ ER (Rd X Wt) (c : Thread nD τ) none (κ := κ (iRecv c (peer k c)))
      (wpE_waitDma2_eq 𝒱₀ (c : Thread nD τ) none Set.univ) (Set.mem_univ _) () (O := 0) (W := W) (R := 0) (m := 0) (T := ∅)
      (by rw [Nat.zero_add, expect_recv X Wt c _ (peer_ne k c)]; rfl)) $$ [Hcr HO Hat]
  · isplitr; · iapply (ctx_inv X Wt κ (iRecv c (peer k c))); iexact HC
    isplitl [Hcr]; · iexact Hcr
    isplitl [HO]; · iexact HO
    isplitr; · rw [MayWait_zero]; iempintro
    iexact Hat
  iintro ⟨HO, Hat, -, Hpay⟩
  ihave Hr := (Entails.of_eq (rest_recv X Wt c (peer k c) (peer_ne k c))) $$ Hpay
  unfold recvPay
  ihave Hr := (rP_join c (peer k c) (RV X Wt c)).2 $$ Hr
  iapply (wp_load_rect 𝒱₀ (c : Thread nD τ) none Set.univ (m := rM) (r := rRect c k) (S := rS (peer k c) 0 ∪ rS (peer k c) 1) (set_rRect c k).le) $$ Hr; iintro Hr
  rw [show (rM.access (rRect c k)).read (Elt F) (RV X Wt c) = rM.view.readAt (Elt F) (rRect c k).toLoadRect (RV X Wt c) from rfl]
  ihave Hr := (rP_join c (peer k c) (RV X Wt c)).1 $$ Hr
  icases Hr with ⟨H0, H1⟩
  iapply (run_outWait X Wt c Q p) $$ [Hbusy HO]
  · isplitl [Hbusy]; · iexact Hbusy
    unfold owed; iexists _; iexact HO
  iintro ⟨Hs, Hdone, HO⟩
  iapply (run_stage X Wt c Q k p.slot K) $$ [Hs Hout]
  · isplitl [Hs] <;> iassumption
  iintro Hb
  iapply Hk
  unfold drained rAny
  isplitl [Hat H0 H1]
  · isplitl [Hat]; · iexact Hat
    isplitl [H0] <;> (iexists _; iassumption)
  isplitl [Hdone]; · iexact Hdone
  isplitl [Hb]; · iexact Hb
  unfold owed; iexact HO

end Cert.SiluA2A

end
-- ==== Proof.Body.lean ====
/-
# The body of one device

The rules of the steps are put together by induction along the lists of steps, and then in program order.
-/
module

public import proofs.«01_k».proof.Proof.Exchange
public import Idealize.ShloMosaic.Lib.Pipeline.BigSepL

@[expose] public section

noncomputable section

namespace Cert.SiluA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .f32) (Wt : Dev nD → Vec F S4096x8192 .f32)
variable (κ : Dev nD × CI → ℕ)
variable (c : Dev nD) (Q : PUnit → sProp (MT nD τ sig Unit (Elt F) ℕ UU ℕ))

/-! ## The signals -/

/-- What the signal of step `k` takes. -/
def signalTok (k : Fin 7) : sProp 𝕄 :=
  iprop(dutyTok ER (barCell (peer k c)) 0 k ∗ rAny (F := F) c (peer k c) 0 ∗ rAny (F := F) c (peer k c) 1)

theorem run_signals (O : CellTallies nD τ sig Unit) (K : P F) : ∀ ks : List (Fin 7),
    iprop(ctx X Wt κ ∗ bigSepL ks (fun k => signalTok (F := F) c k) ∗ owed c (owedBar c O ks))
      ⊢ iprop((owed c O -∗ runs c K Q) -∗ runs c (signals c ks K) Q)
  | [] => by
    unfold signals owedBar
    iintro ⟨-, -, HO⟩ Hk
    iapply Hk; iexact HO
  | k :: ks => by
    unfold signals owedBar
    rw [bigSepL_cons']
    iintro ⟨#HC, ⟨Ht, Hts⟩, HO⟩ Hk
    unfold signalTok
    iapply (run_signal X Wt κ c Q k (signals c ks K) (owedBar c O ks)) $$ [Ht HO]
    · isplitr; · iexact HC
      isplitl [Ht] <;> iassumption
    iintro HO
    iapply (run_signals O K ks) $$ [Hts HO]
    · isplitr; · iexact HC
      unfold signalTok
      isplitl [Hts] <;> iassumption
    iexact Hk

/-! ## The sends -/

/-- One half of one step: wait for the columns, compute, store, send. -/
theorem run_half (k : Fin 7) (h : Fin 2) (K : P F) (O : CellTallies nD τ sig Unit) (hO : Above 0 O) :
    iprop(ctx X Wt κ ∗ xP X c ∗ wBusy Wt c (some k) h ∗ (yAny (F := F) c k h ∗ sendToks (F := F) c k h)
        ∗ owed c (O + tallyAt (recvCell (peer k c) c) () N))
      ⊢ iprop(((xP X c ∗ wIdle Wt c h ∗ sentTok (F := F) c k h ∗ owed c O) -∗ runs c K Q)
          -∗ runs c (stWaitW c (some k) h <| stLoad h fun x w => stPut k h (ySt x w) <| stSend c k h K) Q) := by
  iintro ⟨#HC, Hx, Hw, ⟨Hy, Ht⟩, HO⟩ Hk
  iapply (run_waitW Wt c Q (some k) h _ (above_add hO (above_recv (by decide) (peer k c) c N))) $$ [Hw HO]
  · isplitr; · iapply (ctx_lev X Wt κ); iexact HC
    isplitl [Hw] <;> iassumption
  iintro ⟨Hw, HO⟩
  iapply (run_load X Wt c Q (some k) h _) $$ [Hx Hw]
  · isplitl [Hx] <;> iassumption
  iintro ⟨Hx, Hw⟩
  iapply (run_put c Q k h _ _) $$ Hy
  iintro Hy
  iapply (run_send X Wt κ c Q k h K O) $$ [Hy Ht HO]
  · isplitr; · iexact HC
    isplitl [Hy]; · iexact Hy
    isplitl [Ht] <;> iassumption
  iintro ⟨Hs, HO⟩
  iapply Hk
  isplitl [Hx]; · iexact Hx
  isplitl [Hw]; · iexact Hw
  isplitl [Hs] <;> iassumption

/-- What step `k` takes to send. -/
def stepTok (k : Fin 7) : sProp 𝕄 :=
  iprop((yAny (F := F) c k 0 ∗ sendToks (F := F) c k 0) ∗ (yAny (F := F) c k 1 ∗ sendToks (F := F) c k 1))
def stepSent (k : Fin 7) : sProp 𝕄 := iprop(sentTok (F := F) c k 0 ∗ sentTok (F := F) c k 1)

theorem run_sends (K : P F) : ∀ ks : List (Fin 7),
    iprop(ctx X Wt κ ∗ xP X c ∗ wBusy Wt c (nextOf ks) 0 ∗ wIdle Wt c 1 ∗ bigSepL ks (fun k => stepTok (F := F) c k) ∗ owed c (owedRecv c ks))
      ⊢ iprop(((xP X c ∗ wBusy Wt c none 0 ∗ wIdle Wt c 1 ∗ bigSepL ks (fun k => stepSent (F := F) c k) ∗ owed c 0) -∗ runs c K Q)
          -∗ runs c (sends c ks K) Q)
  | [] => by
    unfold sends owedRecv nextOf
    iintro ⟨-, Hx, Hw0, Hw1, Ht, HO⟩ Hk
    iapply Hk
    isplitl [Hx]; · iexact Hx
    isplitl [Hw0]; · iexact Hw0
    isplitl [Hw1]; · iexact Hw1
    isplitl [Ht]; · iexact Ht
    iexact HO
  | k :: ks => by
    unfold sends owedRecv
    rw [bigSepL_cons', bigSepL_cons', show nextOf (k :: ks) = some k from rfl]
    unfold stPeer
    iintro ⟨#HC, Hx, Hw0, Hw1, ⟨Ht, Hts⟩, HO⟩ Hk
    unfold stepTok
    icases Ht with ⟨Ht0, Ht1⟩
    iapply (run_copyW Wt c Q (some k) 1 _) $$ Hw1
    iintro Hw1
    iapply (run_half X Wt κ c Q k 0 _ (owedRecv c ks + tallyAt (recvCell (peer k c) c) () N)
      (above_add (above_owedRecv (by decide) c ks) (above_recv (by decide) _ _ _))) $$ [Hx Hw0 Ht0 HO]
    · isplitr; · iexact HC
      isplitl [Hx]; · iexact Hx
      isplitl [Hw0]; · iexact Hw0
      isplitl [Ht0] <;> iassumption
    iintro ⟨Hx, Hw0, Hs0, HO⟩
    iapply (run_copyW Wt c Q (nextOf ks) 0 _) $$ Hw0
    iintro Hw0
    iapply (run_half X Wt κ c Q k 1 _ (owedRecv c ks) (above_owedRecv (by decide) c ks)) $$ [Hx Hw1 Ht1 HO]
    · isplitr; · iexact HC
      isplitl [Hx]; · iexact Hx
      isplitl [Hw1]; · iexact Hw1
      isplitl [Ht1] <;> iassumption
    iintro ⟨Hx, Hw1, Hs1, HO⟩
    iapply (run_sends K ks) $$ [Hx Hw0 Hw1 Hts HO]
    · isplitr; · iexact HC
      isplitl [Hx]; · iexact Hx
      isplitl [Hw0]; · iexact Hw0
      isplitl [Hw1]; · iexact Hw1
      unfold stepTok
      isplitl [Hts] <;> iassumption
    iintro ⟨Hx, Hw0, Hw1, Hss, HO⟩
    iapply Hk
    isplitl [Hx]; · iexact Hx
    isplitl [Hw0]; · iexact Hw0
    isplitl [Hw1]; · iexact Hw1
    isplitr [HO]
    · isplitr [Hss]
      · unfold stepSent; isplitl [Hs0] <;> iassumption
      · iexact Hss
    · iexact HO

/-! ## The device's own rows -/

theorem run_self (K : P F) :
    iprop(levAts L lv ∗ xP X c ∗ wBusy Wt c none 0 ∗ wIdle Wt c 1
        ∗ (sIdle (F := F) c 0 ∗ outAny (F := F) c (.own 0)) ∗ (sIdle (F := F) c 1 ∗ outAny (F := F) c (.own 1)) ∗ owed c 0)
      ⊢ iprop(((xP X c ∗ wIdle Wt c 0 ∗ wIdle Wt c 1 ∗ outBusy X Wt c (.own 0) ∗ outBusy X Wt c (.own 1) ∗ owed c 0) -∗ runs c K Q)
          -∗ runs c (stSelf c K) Q) := by
  unfold stSelf
  iintro ⟨#Hlev, Hx, Hw0, Hw1, H0, H1, HO⟩ Hk
  iapply (run_copyW Wt c Q none 1 _) $$ Hw1
  iintro Hw1
  iapply (run_waitW Wt c Q none 0 _ (above_zero 0)) $$ [Hw0 HO]
  · isplitr; · iexact Hlev
    isplitl [Hw0] <;> iassumption
  iintro ⟨Hw0, HO⟩
  iapply (run_load X Wt c Q none 0 _) $$ [Hx Hw0]
  · isplitl [Hx] <;> iassumption
  iintro ⟨Hx, Hw0⟩
  iapply (run_own X Wt c Q 0 _) $$ H0
  iintro Hb0
  iapply (run_waitW Wt c Q none 1 _ (above_zero 0)) $$ [Hw1 HO]
  · isplitr; · iexact Hlev
    isplitl [Hw1] <;> iassumption
  iintro ⟨Hw1, HO⟩
  iapply (run_load X Wt c Q none 1 _) $$ [Hx Hw1]
  · isplitl [Hx] <;> iassumption
  iintro ⟨Hx, Hw1⟩
  iapply (run_own X Wt c Q 1 _) $$ H1
  iintro Hb1
  iapply Hk
  isplitl [Hx]; · iexact Hx
  isplitl [Hw0]; · iexact Hw0
  isplitl [Hw1]; · iexact Hw1
  isplitl [Hb0]; · iexact Hb0
  isplitl [Hb1] <;> iassumption

/-! ## The drains -/

/-- The rows drain `k` fills, whichever stage buffer it uses. -/
def rowsAny (k : Fin 7) : sProp 𝕄 := outAny (F := F) c (.dr k 0)
def rowsDone (k : Fin 7) : sProp 𝕄 := outDone X Wt c (.dr k 0)

/-- The drains of the listed steps, the copies `p` and `q` under way before. At the end two copies `p'` and `q'` are, out
    of different stage buffers, and once their rows are there so are all. -/
theorem run_drains (K : Out → Out → P F) : ∀ (ks : List (Fin 7)) (p q : Out), p.slot ≠ q.slot →
    iprop(ctx X Wt κ ∗ bigSepL ks (fun k => iprop(drainTok (F := F) c k ∗ rowsAny (F := F) c k)) ∗ outBusy X Wt c p ∗ outBusy X Wt c q ∗ owed c 0)
      ⊢ iprop((∀ p', ∀ q', (⌜p'.slot ≠ q'.slot⌝ ∗ bigSepL ks (fun k => drained (F := F) c k) ∗ outBusy X Wt c p' ∗ outBusy X Wt c q' ∗ owed c 0
            ∗ ((outDone X Wt c p' ∗ outDone X Wt c q') -∗ (outDone X Wt c p ∗ outDone X Wt c q ∗ bigSepL ks (fun k => rowsDone X Wt c k))))
            -∗ runs c (K p' q') Q)
          -∗ runs c (drains c ks p q K) Q)
  | [], p, q, hne => by
    unfold drains
    iintro ⟨-, Hd, Hp, Hq, HO⟩ Hk
    iapply Hk $$ %p %q
    isplitr; · ipureintro; exact hne
    isplitl [Hd]; · iexact Hd
    isplitl [Hp]; · iexact Hp
    isplitl [Hq]; · iexact Hq
    isplitl [HO]; · iexact HO
    iintro ⟨Hp, Hq⟩
    isplitl [Hp]; · iexact Hp
    isplitl [Hq]; · iexact Hq
    iempintro
  | k :: ks, p, q, hne => by
    unfold drains
    rw [bigSepL_cons', bigSepL_cons', bigSepL_cons']
    iintro ⟨#HC, ⟨⟨Hd, Hr⟩, Hds⟩, Hp, Hq, HO⟩ Hk
    iapply (run_drain X Wt κ c Q k p _) $$ [Hd Hr Hp HO]
    · isplitr; · iexact HC
      isplitl [Hd]; · iexact Hd
      isplitl [Hr]; · unfold rowsAny outAny outSet; iexact Hr
      isplitl [Hp] <;> iassumption
    iintro ⟨Hd, Hdone, Hp, HO⟩
    iapply (run_drains K ks q (.dr k p.slot) (fun h => hne h.symm)) $$ [Hds Hp Hq HO]
    · isplitr; · iexact HC
      isplitl [Hds]; · iexact Hds
      isplitl [Hq]; · iexact Hq
      isplitl [Hp] <;> iassumption
    iintro %p' %q' ⟨%hne', Hds, Hp', Hq', HO, Hall⟩
    iapply Hk $$ %p' %q'
    isplitr; · ipureintro; exact hne'
    isplitl [Hd Hds]
    · isplitl [Hd] <;> iassumption
    isplitl [Hp']; · iexact Hp'
    isplitl [Hq']; · iexact Hq'
    isplitl [HO]; · iexact HO
    iintro H
    ihave H := Hall $$ H
    icases H with ⟨Hq, Hk', Hks⟩
    isplitl [Hdone]; · iexact Hdone
    isplitl [Hq]; · iexact Hq
    isplitl [Hk']
    · unfold rowsDone outDone outSet; iexact Hk'
    iexact Hks

/-! ## The waits for what was sent -/

def sendPos (k : Fin 7) : sProp 𝕄 := iprop(atPos ER (sendCell c k 0) 0 ∅ 0 ∗ atPos ER (sendCell c k 1) 0 ∅ 0)
def sentBack (k : Fin 7) : sProp 𝕄 :=
  iprop((atPos ER (sendCell c k 0) 1 ∅ 0 ∗ yAny (F := F) c k 0) ∗ (atPos ER (sendCell c k 1) 1 ∅ 0 ∗ yAny (F := F) c k 1))

theorem run_sents : ∀ ks : List (Fin 7),
    iprop(ctx X Wt κ ∗ bigSepL ks (fun k => iprop(sendPos (F := F) c k ∗ stepSent (F := F) c k)) ∗ owed c 0)
      ⊢ iprop(((bigSepL ks (fun k => sentBack (F := F) c k) ∗ owed c 0) -∗ |={Set.univ}=> Q ⟨⟩) -∗ runs c (sents c ks) Q)
  | [] => by
    unfold sents runs
    rw [wp_ret]
    iintro ⟨-, H, HO⟩ Hk
    iapply Hk
    isplitl [H]; · iexact H
    iexact HO
  | k :: ks => by
    unfold sents
    rw [bigSepL_cons', bigSepL_cons']
    iintro ⟨#HC, ⟨⟨Hp, Ht⟩, Hs⟩, HO⟩ Hk
    unfold sendPos stepSent
    icases Hp with ⟨Hp0, Hp1⟩
    icases Ht with ⟨Ht0, Ht1⟩
    iapply (run_sent X Wt κ c Q k 0 _) $$ [Hp0 Ht0 HO]
    · isplitr; · iexact HC
      isplitl [Hp0 Ht0]
      · isplitl [Hp0] <;> iassumption
      iexact HO
    iintro ⟨H0, HO⟩
    iapply (run_sent X Wt κ c Q k 1 _) $$ [Hp1 Ht1 HO]
    · isplitr; · iexact HC
      isplitl [Hp1 Ht1]
      · isplitl [Hp1] <;> iassumption
      iexact HO
    iintro ⟨H1, HO⟩
    iapply (run_sents ks) $$ [Hs HO]
    · isplitr; · iexact HC
      unfold sendPos stepSent
      isplitl [Hs] <;> iassumption
    iintro ⟨Hs, HO⟩
    iapply Hk
    isplitr [HO]
    · isplitr [Hs]
      · unfold sentBack; isplitl [H0] <;> iassumption
      · iexact Hs
    · iexact HO

end Cert.SiluA2A

end
-- ==== Proof.Buffers.lean ====
/-
# Whole buffers and their pieces

Each buffer of the device is the sum of the pieces the steps work on, in the grouping the steps use: per step of the
exchange, the device's own part apart.
-/
module

public import proofs.«01_k».proof.Proof.Body

@[expose] public section

noncomputable section

namespace Cert.SiluA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .f32) (Wt : Dev nD → Vec F S4096x8192 .f32)
variable (c : Dev nD)

/-- A family over the devices: the device's own and, per step, its peer's. -/
theorem bigSep_peers (Φ : Dev nD → sProp 𝕄) :
    bigSep Finset.univ Φ = iprop(Φ c ∗ bigSep Finset.univ fun k : Fin 7 => Φ (peer k c)) := by
  rw [bigSep_univ_at Φ c]
  have he : (Finset.univ.erase c : Finset (Dev nD)) = Finset.univ.map ⟨fun k : Fin 7 => peer k c, fun k k' h => peer_inj c k k' h⟩ := by
    ext d
    rw [Finset.mem_erase, Finset.mem_map]
    constructor
    · rintro ⟨hd, -⟩
      obtain ⟨k, hk⟩ := peer_surj c d hd
      exact ⟨k, Finset.mem_univ _, hk⟩
    · rintro ⟨k, -, rfl⟩
      exact ⟨peer_ne k c, Finset.mem_univ _⟩
  rw [he, Idealize.SL.BI.bigSep_map]
  rfl

/-- A family over pairs with a half, the halves apart. -/
theorem bigSep_halves {A : Type} [Fintype A] (Φ : A × Fin 2 → sProp 𝕄) :
    bigSep Finset.univ Φ = bigSep Finset.univ fun a => iprop(Φ (a, 0) ∗ Φ (a, 1)) := by
  rw [bigSep_univ_prod]
  exact congrArg (bigSep Finset.univ) (funext fun a => bigSep_univ_two _)

section Generic
variable {ℓ : Loc nD τ sig} {T : Type} [Fintype T] [DecidableEq T] (S : T → Finset (Idx ℓ))
  (hd : ∀ t t', t ≠ t' → Disjoint (S t) (S t')) (hu : (Finset.univ : Finset (Idx ℓ)) = Finset.univ.biUnion S)
include hd hu

/-- A buffer is its pieces. -/
theorem same_pieces (f : Buf (Elt F) ℓ) : (ℓ ↦{fullShare} f : sProp 𝕄) = bigSep Finset.univ fun t => ℓ ↦[S t]{fullShare} f := by
  rw [← pointsTo_biUnion Finset.univ S (fun t _ t' _ h => hd t t' h), ← hu]
/-- At contents nobody cares about, taken apart. -/
theorem any_split : iprop(∃ f, ℓ ↦{fullShare} f) ⊢ (bigSep Finset.univ fun t => iprop(∃ f, ℓ ↦[S t]{fullShare} f) : sProp 𝕄) := by
  refine exists_elim fun f => ?_
  rw [same_pieces S hd hu f]
  have h : ∀ t ∈ (Finset.univ : Finset T), BIBase.Entails (PROP := sProp 𝕄) (ℓ ↦[S t]{fullShare} f) iprop(∃ f, ℓ ↦[S t]{fullShare} f) :=
    fun t _ => by iintro H; iexists f; iexact H
  exact bigSep_mono h
/-- And put together. -/
theorem any_join [Nonempty (Buf (Elt F) ℓ)] :
    (bigSep Finset.univ fun t => iprop(∃ f, ℓ ↦[S t]{fullShare} f) : sProp 𝕄) ⊢ iprop(∃ f, ℓ ↦{fullShare} f) := by
  iintro H
  ihave H := (bigSep_exists_pi Finset.univ (fun t (f : Buf (Elt F) ℓ) => (ℓ ↦[S t]{fullShare} f : sProp 𝕄))) $$ H
  icases H with ⟨%fs, H⟩
  ihave H := (pointsTo_biUnion_join Finset.univ S fs (Classical.choice inferInstance) (fun t _ t' _ h => hd t t' h)) $$ H
  icases H with ⟨%g, -, H⟩
  rw [← hu]
  iexists g; iexact H
end Generic

/-- A whole scratch buffer at any contents. -/
def someOf (b : Ref sig .tc) : sProp 𝕄 := iprop(∃ f : Buf (Elt F) ((c : Thread nD τ).loc b), ((c : Thread nD τ).loc b) ↦{fullShare} f)

/-! ## The weight buffers and the stage buffers -/

theorem w_split : someOf (F := F) c cc0_scratch0 ⊢ iprop((∃ f, wP (F := F) c 0 f) ∗ ∃ f, wP (F := F) c 1 f) := by
  unfold someOf wP
  have h := any_split (F := F) (ℓ := (c : Thread nD τ).loc cc0_scratch0) wS (fun _ _ => wS_disj) wS_all
  rw [bigSep_univ_two] at h
  exact h
theorem w_join : iprop((∃ f, wP (F := F) c 0 f) ∗ ∃ f, wP (F := F) c 1 f) ⊢ someOf (F := F) c cc0_scratch0 := by
  unfold someOf wP
  have h := any_join (F := F) (ℓ := (c : Thread nD τ).loc cc0_scratch0) wS (fun _ _ => wS_disj) wS_all
  rw [bigSep_univ_two] at h
  exact h
theorem s_split : someOf (F := F) c cc0_scratch3 ⊢ iprop((∃ f, sP (F := F) c 0 f) ∗ ∃ f, sP (F := F) c 1 f) := by
  unfold someOf sP
  have h := any_split (F := F) (ℓ := (c : Thread nD τ).loc cc0_scratch3) sS (fun _ _ => sS_disj) sS_all
  rw [bigSep_univ_two] at h
  exact h
theorem s_join : iprop((∃ f, sP (F := F) c 0 f) ∗ ∃ f, sP (F := F) c 1 f) ⊢ someOf (F := F) c cc0_scratch3 := by
  unfold someOf sP
  have h := any_join (F := F) (ℓ := (c : Thread nD τ).loc cc0_scratch3) sS (fun _ _ => sS_disj) sS_all
  rw [bigSep_univ_two] at h
  exact h

/-! ## The send buffers -/

theorem y_split : someOf (F := F) c cc0_scratch1
    ⊢ bigSep Finset.univ fun k => iprop(yAny (F := F) c k 0 ∗ yAny (F := F) c k 1) := by
  unfold someOf yAny yP
  have h := any_split (F := F) (ℓ := (c : Thread nD τ).loc cc0_scratch1) (fun p : Fin 7 × Fin 2 => yS p.1 p.2) (fun _ _ => yS_disj) yS_all
  rw [bigSep_halves] at h
  exact h
theorem y_join : (bigSep Finset.univ fun k => iprop(yAny (F := F) c k 0 ∗ yAny (F := F) c k 1))
    ⊢ someOf (F := F) c cc0_scratch1 := by
  unfold someOf yAny yP
  have h := any_join (F := F) (ℓ := (c : Thread nD τ).loc cc0_scratch1) (fun p : Fin 7 × Fin 2 => yS p.1 p.2) (fun _ _ => yS_disj) yS_all
  rw [bigSep_halves] at h
  exact h

/-! ## The landing buffers -/

theorem r_split : someOf (F := F) c cc0_scratch2
    ⊢ iprop((rAny (F := F) c c 0 ∗ rAny (F := F) c c 1) ∗ bigSep Finset.univ fun k => iprop(rAny (F := F) c (peer k c) 0 ∗ rAny (F := F) c (peer k c) 1)) := by
  unfold someOf rAny rP
  have h := any_split (F := F) (ℓ := (c : Thread nD τ).loc cc0_scratch2) (fun p : Dev nD × Fin 2 => rS p.1 p.2) (fun _ _ => rS_disj) rS_all
  rw [bigSep_halves, bigSep_peers c] at h
  exact h
theorem r_join : iprop((rAny (F := F) c c 0 ∗ rAny (F := F) c c 1) ∗ bigSep Finset.univ fun k => iprop(rAny (F := F) c (peer k c) 0 ∗ rAny (F := F) c (peer k c) 1))
    ⊢ someOf (F := F) c cc0_scratch2 := by
  unfold someOf rAny rP
  have h := any_join (F := F) (ℓ := (c : Thread nD τ).loc cc0_scratch2) (fun p : Dev nD × Fin 2 => rS p.1 p.2) (fun _ _ => rS_disj) rS_all
  rw [bigSep_halves, bigSep_peers c] at h
  exact h

/-! ## The result -/

theorem oP_join (s : Dev nD) (f : Vec F S4096x1024 .f32) :
    iprop(oP c (oS s 0) f ∗ oP c (oS s 1) f) = (oP c (oS s 0 ∪ oS s 1) f : sProp 𝕄) := by
  unfold oP
  have h := pointsTo_union (Ix := Unit) (Name := ℕ) (U := UU) (Lvl := ℕ) (Val := Elt F) (ℓ := (c : Thread nD τ).loc main_v1) (q := fullShare) (f := f)
    (oS_disj (p := (s, 0)) (p' := (s, 1)) (fun h => absurd (congrArg Prod.snd h) (by show ¬ (0 : Fin 2) = 1; decide)))
  exact (BI.equiv_iff.mp ⟨h.1, h.2⟩).symm

theorem o_pieces (f : Vec F S4096x1024 .f32) :
    (((c : Thread nD τ).loc main_v1) ↦{fullShare} f : sProp 𝕄)
      = iprop((oP c (outSet c (.own 0)) f ∗ oP c (outSet c (.own 1)) f) ∗ bigSep Finset.univ fun k => oP c (outSet c (.dr k 0)) f) := by
  have h := same_pieces (F := F) (ℓ := (c : Thread nD τ).loc main_v1) (fun p : Dev nD × Fin 2 => oS p.1 p.2) (fun _ _ => oS_disj) oS_all f
  rw [bigSep_halves, bigSep_peers c] at h
  refine h.trans (congrArg (fun Z => iprop((oP c (oS c 0) f ∗ oP c (oS c 1) f) ∗ Z)) ?_)
  exact congrArg (bigSep Finset.univ) (funext fun k => oP_join c (peer k c) f)

theorem o_split : someOf (F := F) c main_v1
    ⊢ iprop((outAny (F := F) c (.own 0) ∗ outAny (F := F) c (.own 1)) ∗ bigSep Finset.univ fun k => rowsAny (F := F) c k) := by
  unfold someOf
  iintro ⟨%f, H⟩
  ihave H := (Entails.of_eq (o_pieces c f)) $$ H
  icases H with ⟨⟨H0, H1⟩, Hr⟩
  unfold outAny
  isplitl [H0 H1]
  · isplitl [H0] <;> (iexists f; iassumption)
  have h : ∀ k ∈ (Finset.univ : Finset (Fin 7)), BIBase.Entails (PROP := sProp 𝕄) (oP c (outSet c (.dr k 0)) f) (rowsAny (F := F) c k) :=
    fun k _ => by unfold rowsAny outAny; iintro H; iexists f; iexact H
  iapply (show BIBase.Entails (PROP := sProp 𝕄) _ _ from bigSep_mono h); iexact Hr

/-- All rows there: the whole result is. -/
theorem o_join : iprop((outDone X Wt c (.own 0) ∗ outDone X Wt c (.own 1)) ∗ bigSep Finset.univ fun k => rowsDone X Wt c k)
    ⊢ (((c : Thread nD τ).loc main_v1) ↦{fullShare} OUT X Wt c : sProp 𝕄) :=
  Entails.of_eq (o_pieces c (OUT X Wt c)).symm

/-! ## The weight -/

theorem a_halves : (((c : Thread nD τ).loc main_arg1) ↦{fullShare} Wt c : sProp 𝕄) ⊣⊢ iprop(wA Wt c 0 ∗ wA Wt c 1) := by
  unfold wA wShare
  exact pointsTo_share (PosShare.mem_left_op_right fullShare)

end Cert.SiluA2A

end
-- ==== Proof.Whole.lean ====
/-
# The whole body of a device

From the device's buffers, its tokens and what it owes at launch, the body ends with every semaphore back at zero, the
buffers returned, nothing owed, and the result holding `OUT X Wt c`.
-/
module

public import proofs.«01_k».proof.Proof.Buffers

@[expose] public section

noncomputable section

namespace Cert.SiluA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .f32) (Wt : Dev nD → Vec F S4096x8192 .f32)
variable (κ : Dev nD × CI → ℕ)
variable (c : Dev nD) (Q : PUnit → sProp (MT nD τ sig Unit (Elt F) ℕ UU ℕ))

/-! ## Families over the steps -/

/-- Over all seven steps is over the list of them. -/
theorem over_steps (Φ : Fin 7 → sProp 𝕄) : bigSep Finset.univ Φ = bigSepL steps Φ :=
  bigSep_univ_eq_bigSepL steps (by decide) (by decide) Φ

/-- Two families over a list, member by member. -/
theorem list_zip {A B D : Fin 7 → sProp 𝕄} (h : ∀ k, iprop(A k ∗ B k) ⊢ D k) : ∀ ks : List (Fin 7),
    iprop(bigSepL ks A ∗ bigSepL ks B) ⊢ bigSepL ks D
  | [] => by iintro -; iempintro
  | k :: ks => by
    rw [bigSepL_cons', bigSepL_cons', bigSepL_cons']
    iintro ⟨⟨HA, HAs⟩, HB, HBs⟩
    isplitl [HA HB]
    · iapply (h k); isplitl [HA] <;> iassumption
    · iapply (list_zip h ks); isplitl [HAs] <;> iassumption
/-- A family of pairs over a list is a pair of families. -/
theorem list_unzip {A B : Fin 7 → sProp 𝕄} : ∀ ks : List (Fin 7),
    bigSepL ks (fun k => iprop(A k ∗ B k)) ⊢ iprop(bigSepL ks A ∗ bigSepL ks B)
  | [] => by
    iintro -
    isplitr <;> iempintro
  | k :: ks => by
    rw [bigSepL_cons', bigSepL_cons', bigSepL_cons']
    iintro ⟨⟨HA, HB⟩, H⟩
    ihave H := (list_unzip ks) $$ H
    icases H with ⟨HAs, HBs⟩
    isplitl [HA HAs]
    · isplitl [HA] <;> iassumption
    · isplitl [HB] <;> iassumption
/-- Updates of the members of a list, under a fact known throughout. -/
theorem list_upd {R : sProp 𝕄} [BI.Persistent R] {A B : Fin 7 → sProp 𝕄} (h : ∀ k, iprop(R ∗ A k) ⊢ |={Set.univ}=> B k) :
    ∀ ks : List (Fin 7), iprop(R ∗ bigSepL ks A) ⊢ |={Set.univ}=> bigSepL ks B
  | [] => by
    iintro -
    imodintro
    iempintro
  | k :: ks => by
    rw [bigSepL_cons', bigSepL_cons']
    iintro ⟨#HR, HA, HAs⟩
    imod (h k) $$ [HA] with HB
    · isplitr; · iexact HR
      iexact HA
    imod (list_upd h ks) $$ [HAs] with HBs
    · isplitr; · iexact HR
      iexact HAs
    imodintro
    isplitl [HB] <;> iassumption

/-! ## Closing the cells -/

theorem close_at (p : Dev nD × CI) (R : ℕ) (hR : ∀ r, R ≤ r → (Rd X Wt).duties (cellAt p) r = ∅) :
    iprop(ctx X Wt κ ∗ atPos ER (cellAt p) R ∅ 0) ⊢ |={Set.univ}=> semVal (cellAt p) 0 := by
  iintro ⟨#HC, Hat⟩
  iapply (Rounds.cell_close ER (Rd X Wt) (Set.mem_univ (κ p)) (fun h => h) (R := R) hR)
  isplitr; · iapply (ctx_inv X Wt κ p); iexact HC
  iexact Hat

def sendZero (k : Fin 7) : sProp 𝕄 := iprop(semVal (sendCell c k 0) 0 ∗ semVal (sendCell c k 1) 0)
def recvZero (k : Fin 7) : sProp 𝕄 := semVal (recvCell c (peer k c)) 0

theorem close_send (k : Fin 7) : iprop(ctx X Wt κ ∗ sentBack (F := F) c k)
    ⊢ |={Set.univ}=> (iprop(sendZero c k ∗ (yAny (F := F) c k 0 ∗ yAny (F := F) c k 1)) : sProp 𝕄) := by
  unfold sentBack sendZero
  iintro ⟨#HC, ⟨H0, Hy0⟩, H1, Hy1⟩
  imod (close_at X Wt κ (iSend c k 0) 1 (duties_later X Wt _)) $$ [H0] with Hz0
  · isplitr; · iexact HC
    iexact H0
  imod (close_at X Wt κ (iSend c k 1) 1 (duties_later X Wt _)) $$ [H1] with Hz1
  · isplitr; · iexact HC
    iexact H1
  imodintro
  isplitl [Hz0 Hz1]
  · isplitl [Hz0]; · iexact Hz0
    iexact Hz1
  isplitl [Hy0] <;> iassumption

theorem close_recv (k : Fin 7) : iprop(ctx X Wt κ ∗ drained (F := F) c k)
    ⊢ |={Set.univ}=> (iprop(recvZero c k ∗ (rAny (F := F) c (peer k c) 0 ∗ rAny (F := F) c (peer k c) 1)) : sProp 𝕄) := by
  unfold drained recvZero
  iintro ⟨#HC, H, Hr⟩
  imod (close_at X Wt κ (iRecv c (peer k c)) 1 (duties_later X Wt _)) $$ [H] with Hz
  · isplitr; · iexact HC
    iexact H
  imodintro
  isplitl [Hz]; · iexact Hz
  iexact Hr

/-! ## What a device starts from -/

/-- The token of the entry signal of step `k`. -/
def barTok (k : Fin 7) : sProp 𝕄 := dutyTok ER (barCell (peer k c)) 0 k
/-- The tokens of the sends of step `k`. -/
def xferTok (k : Fin 7) : sProp 𝕄 :=
  iprop((dutyTok ER (sendCell c k 0) 0 0 ∗ dutyTok ER (sendCell c k 1) 0 0)
    ∗ (dutyTok ER (recvCell (peer k c) c) 0 (duty 0) ∗ dutyTok ER (recvCell (peer k c) c) 0 (duty 1)))
/-- Its positions, its credits and the tokens of the duties it pays. -/
def ghost : sProp 𝕄 :=
  iprop((atPos ER (barCell c) 0 ∅ 0 ∗ cred (tallyAt (barCell c) () 7))
    ∗ bigSep Finset.univ (fun k => barTok (F := F) c k) ∗ bigSep Finset.univ (fun k => xferTok (F := F) c k)
    ∗ bigSep Finset.univ (fun k => sendPos (F := F) c k) ∗ bigSep Finset.univ (fun k => drainTok (F := F) c k)
    ∗ atPos ER (recvCell c c) 0 ∅ 0)
/-- The semaphores of its own copies, at zero. -/
def ownZero : sProp 𝕄 :=
  iprop((semVal ((c : Thread nD τ), .dma (wSem 0)) 0 ∗ semVal ((c : Thread nD τ), .dma (wSem 1)) 0)
    ∗ (semVal ((c : Thread nD τ), .dma (sSem 0)) 0 ∗ semVal ((c : Thread nD τ), .dma (sSem 1)) 0))
/-- Its scratch buffers. -/
def scratch : sProp 𝕄 :=
  iprop(someOf (F := F) c cc0_scratch0 ∗ someOf (F := F) c cc0_scratch1 ∗ someOf (F := F) c cc0_scratch2 ∗ someOf (F := F) c cc0_scratch3)
/-- The exchange's semaphores, at zero. -/
def exchZero : sProp 𝕄 :=
  iprop(semVal (barCell c) 0 ∗ bigSep Finset.univ (fun k => sendZero (F := F) c k)
    ∗ (semVal (recvCell c c) 0 ∗ bigSep Finset.univ (fun k => recvZero (F := F) c k)))

/-- What the body leaves. -/
def after : sProp 𝕄 :=
  iprop(exchZero (F := F) c ∗ ownZero (F := F) c ∗ scratch (F := F) c ∗ xP X c
    ∗ (((c : Thread nD τ).loc main_arg1) ↦{fullShare} Wt c) ∗ (((c : Thread nD τ).loc main_v1) ↦{fullShare} OUT X Wt c) ∗ owed c 0)

/-- The two last copies out, whichever buffers they leave, free both. -/
theorem both_idle {p q : Out} (h : p.slot ≠ q.slot) :
    iprop(sIdle (F := F) c p.slot ∗ sIdle (F := F) c q.slot) ⊢ iprop(sIdle (F := F) c 0 ∗ sIdle (F := F) c 1) := by
  generalize p.slot = a at h ⊢
  generalize q.slot = b at h ⊢
  have hab : (a = 0 ∧ b = 1) ∨ (a = 1 ∧ b = 0) := by revert a b; decide
  rcases hab with ⟨rfl, rfl⟩ | ⟨rfl, rfl⟩
  · iintro H; iexact H
  · iintro ⟨H1, H0⟩; isplitl [H0] <;> iassumption

/-- The sends' needs, gathered: the send buffers, the peers' landing buffers and the tokens. -/
theorem stepTok_intro (k : Fin 7) :
    iprop(((yAny (F := F) c k 0 ∗ yAny (F := F) c k 1) ∗ xferTok (F := F) c k) ∗ barPay (F := F) c k) ⊢ stepTok (F := F) c k := by
  unfold xferTok barPay stepTok sendToks
  iintro ⟨⟨⟨Hy0, Hy1⟩, ⟨Hs0, Hs1⟩, Hr0, Hr1⟩, Hb0, Hb1⟩
  isplitl [Hy0 Hs0 Hr0 Hb0]
  · isplitl [Hy0]; · iexact Hy0
    isplitl [Hb0]; · iexact Hb0
    isplitl [Hs0] <;> iassumption
  · isplitl [Hy1]; · iexact Hy1
    isplitl [Hb1]; · iexact Hb1
    isplitl [Hs1] <;> iassumption

set_option maxHeartbeats 1600000 in
/-- The body of device `c`. -/
theorem run_body :
    iprop(ctx X Wt κ ∗ ghost (F := F) c ∗ ownZero (F := F) c ∗ scratch (F := F) c ∗ xP X c
        ∗ (((c : Thread nD τ).loc main_arg1) ↦{fullShare} Wt c) ∗ someOf (F := F) c main_v1 ∗ owed c (O₀ c))
      ⊢ iprop((after X Wt c -∗ Q ⟨⟩) -∗ runs c (bodyOf c) Q) := by
  unfold ghost ownZero scratch
  rw [over_steps, over_steps, over_steps, over_steps]
  iintro ⟨#HC, ⟨⟨HatB, HcB⟩, HtB, HtX, HpS, HtD, HatO⟩, ⟨⟨Hw0, Hw1⟩, Hs0, Hs1⟩, ⟨Bw, By, Br, Bs⟩, Hx, HA, Ho, HO⟩ Hk
  ihave Bw := (w_split c) $$ Bw
  icases Bw with ⟨Bw0, Bw1⟩
  ihave HA := (a_halves Wt c).1 $$ HA
  icases HA with ⟨HA0, HA1⟩
  ihave By := ((y_split c).trans (Entails.of_eq (over_steps _))) $$ By
  ihave Br := (r_split c) $$ Br
  icases Br with ⟨Bro, Br⟩
  ihave Br := (Entails.of_eq (over_steps _)) $$ Br
  ihave Bs := (s_split c) $$ Bs
  icases Bs with ⟨Bs0, Bs1⟩
  ihave Ho := (o_split c) $$ Ho
  icases Ho with ⟨⟨Ho0, Ho1⟩, Hrows⟩
  ihave Hrows := (Entails.of_eq (over_steps _)) $$ Hrows
  unfold bodyOf
  -- entering
  iapply (run_signals X Wt κ c Q (owedRecv c steps) _ steps) $$ [HtB Br HO]
  · isplitr; · iexact HC
    isplitl [HtB Br]
    · iapply (list_zip (A := fun k => barTok (F := F) c k) (B := fun k => iprop(rAny (F := F) c (peer k c) 0 ∗ rAny (F := F) c (peer k c) 1))
        (D := fun k => signalTok (F := F) c k) (fun k => by unfold barTok signalTok; iintro H; iexact H) steps)
      isplitl [HtB] <;> iassumption
    unfold O₀; iexact HO
  iintro HO
  iapply (run_barrier X Wt κ c Q _ _ (above_owedRecv (by decide) c steps)) $$ [HatB HcB HO]
  · isplitr; · iexact HC
    isplitl [HatB HcB]
    · isplitl [HatB] <;> iassumption
    iexact HO
  iintro ⟨HatB, Hpay, HO⟩
  ihave Hpay := (Entails.of_eq (over_steps _)) $$ Hpay
  -- the sends
  iapply (run_copyW Wt c Q (some 0) 0 _) $$ [Bw0 Hw0 HA0]
  · unfold wIdle
    isplitl [Bw0]; · iexact Bw0
    isplitl [Hw0] <;> iassumption
  iintro Hw0
  iapply (run_sends X Wt κ c Q _ steps) $$ [Hx Hw0 Bw1 Hw1 HA1 By HtX Hpay HO]
  · isplitr; · iexact HC
    isplitl [Hx]; · iexact Hx
    isplitl [Hw0]; · iexact Hw0
    isplitl [Bw1 Hw1 HA1]
    · unfold wIdle
      isplitl [Bw1]; · iexact Bw1
      isplitl [Hw1] <;> iassumption
    isplitl [By HtX Hpay]
    · iapply (list_zip (A := fun k => iprop((yAny (F := F) c k 0 ∗ yAny (F := F) c k 1) ∗ xferTok (F := F) c k)) (B := fun k => barPay (F := F) c k)
        (D := fun k => stepTok (F := F) c k) (stepTok_intro c) steps)
      isplitl [By HtX]
      · iapply (list_zip (A := fun k => iprop(yAny (F := F) c k 0 ∗ yAny (F := F) c k 1)) (B := fun k => xferTok (F := F) c k)
          (fun k => by iintro H; iexact H) steps)
        isplitl [By] <;> iassumption
      iexact Hpay
    iexact HO
  iintro ⟨Hx, Hw0, Hw1, Hsent, HO⟩
  -- its own rows
  iapply (run_self X Wt c Q _) $$ [Hx Hw0 Hw1 Bs0 Hs0 Ho0 Bs1 Hs1 Ho1 HO]
  · isplitr; · iapply (ctx_lev X Wt κ); iexact HC
    isplitl [Hx]; · iexact Hx
    isplitl [Hw0]; · iexact Hw0
    isplitl [Hw1]; · iexact Hw1
    unfold sIdle
    isplitl [Bs0 Hs0 Ho0]
    · isplitl [Bs0 Hs0]
      · isplitl [Bs0] <;> iassumption
      iexact Ho0
    isplitl [Bs1 Hs1 Ho1]
    · isplitl [Bs1 Hs1]
      · isplitl [Bs1] <;> iassumption
      iexact Ho1
    iexact HO
  iintro ⟨Hx, Hw0, Hw1, Hb0, Hb1, HO⟩
  -- the drains
  iapply (run_drains X Wt κ c Q _ steps (.own 0) (.own 1) (by decide)) $$ [HtD Hrows Hb0 Hb1 HO]
  · isplitr; · iexact HC
    isplitl [HtD Hrows]
    · iapply (list_zip (A := fun k => drainTok (F := F) c k) (B := fun k => rowsAny (F := F) c k) (fun k => by iintro H; iexact H) steps)
      isplitl [HtD] <;> iassumption
    isplitl [Hb0]; · iexact Hb0
    isplitl [Hb1] <;> iassumption
  iintro %p %q ⟨%hne, Hdr, Hp, Hq, HO, Hall⟩
  iapply (run_outWait X Wt c Q q _) $$ [Hq HO]
  · isplitl [Hq] <;> iassumption
  iintro ⟨Hsq, Hdq, HO⟩
  iapply (run_outWait X Wt c Q p _) $$ [Hp HO]
  · isplitl [Hp] <;> iassumption
  iintro ⟨Hsp, Hdp, HO⟩
  ihave Hout := Hall $$ [Hdp Hdq]
  · isplitl [Hdp] <;> iassumption
  icases Hout with ⟨Hd0, Hd1, Hrows⟩
  ihave Hs := (both_idle c hne) $$ [Hsp Hsq]
  · isplitl [Hsp] <;> iassumption
  -- the waits for what was sent
  iapply (run_sents X Wt κ c Q steps) $$ [HpS Hsent HO]
  · isplitr; · iexact HC
    isplitl [HpS Hsent]
    · iapply (list_zip (A := fun k => sendPos (F := F) c k) (B := fun k => stepSent (F := F) c k) (fun k => by iintro H; iexact H) steps)
      isplitl [HpS] <;> iassumption
    iexact HO
  iintro ⟨Hsent, HO⟩
  -- every cell closed
  imod (list_upd (R := ctx X Wt κ) (close_send X Wt κ c) steps) $$ [Hsent] with Hsent
  · isplitr; · iexact HC
    iexact Hsent
  imod (list_upd (R := ctx X Wt κ) (close_recv X Wt κ c) steps) $$ [Hdr] with Hdr
  · isplitr; · iexact HC
    iexact Hdr
  imod (close_at X Wt κ (iBar c) 1 (duties_later X Wt _)) $$ [HatB] with HzB
  · isplitr; · iexact HC
    iexact HatB
  imod (close_at X Wt κ (iRecv c c) 0 (duties_own X Wt c)) $$ [HatO] with HzO
  · isplitr; · iexact HC
    iexact HatO
  imodintro
  ihave Hsent := (list_unzip steps) $$ Hsent
  icases Hsent with ⟨HzS, By⟩
  ihave Hdr := (list_unzip steps) $$ Hdr
  icases Hdr with ⟨HzR, Br⟩
  iapply Hk
  unfold after exchZero ownZero scratch
  rw [over_steps, over_steps]
  isplitl [HzB HzS HzO HzR]
  · isplitl [HzB]; · iexact HzB
    isplitl [HzS]; · iexact HzS
    isplitl [HzO]; · iexact HzO
    iexact HzR
  unfold wIdle sIdle
  icases Hw0 with ⟨Bw0, Hw0, HA0⟩
  icases Hw1 with ⟨Bw1, Hw1, HA1⟩
  icases Hs with ⟨⟨Bs0, Hs0⟩, Bs1, Hs1⟩
  isplitl [Hw0 Hw1 Hs0 Hs1]
  · isplitl [Hw0 Hw1]
    · isplitl [Hw0] <;> iassumption
    · isplitl [Hs0] <;> iassumption
  isplitl [Bw0 Bw1 By Bro Br Bs0 Bs1]
  · isplitl [Bw0 Bw1]
    · iapply (w_join c); isplitl [Bw0] <;> iassumption
    isplitl [By]
    · iapply (y_join c); iapply (Entails.of_eq (over_steps _).symm); iexact By
    isplitl [Bro Br]
    · iapply (r_join c)
      isplitl [Bro]; · iexact Bro
      iapply (Entails.of_eq (over_steps _).symm); iexact Br
    iapply (s_join c); isplitl [Bs0] <;> iassumption
  isplitl [Hx]; · iexact Hx
  isplitl [HA0 HA1]
  · iapply (a_halves Wt c).2; isplitl [HA0] <;> iassumption
  isplitl [Hd0 Hd1 Hrows]
  · iapply (o_join X Wt c)
    isplitl [Hd0 Hd1]
    · isplitl [Hd0] <;> iassumption
    iapply (Entails.of_eq (over_steps _).symm); iexact Hrows
  iexact HO

end Cert.SiluA2A

end
-- ==== Proof.Credits.lean ====
/-
# What is owed at launch, and the credit each device waits with

Each device owes a unit to every other device's barrier semaphore and both halves of a block to every other device's
receive semaphore. Added up over the devices this is, on each device's own cells, what it will wait for.
-/
module

public import proofs.«01_k».proof.Proof.Whole

@[expose] public section

noncomputable section

namespace Cert.SiluA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝕋" => CellTallies nD τ sig Unit

/-- A step, seen from the other end: device and step go to the peer and the same step. -/
def otherEnd : Dev nD × Fin 7 ≃ Dev nD × Fin 7 where
  toFun p := (peer p.2 p.1, p.2)
  invFun p := (peer p.2 p.1, p.2)
  left_inv p := by show (peer p.2 (peer p.2 p.1), p.2) = p; rw [peer_peer]
  right_inv p := by show (peer p.2 (peer p.2 p.1), p.2) = p; rw [peer_peer]

/-- The unit owed to a barrier cell, and the two halves owed to a receive cell. -/
def barUnit (d : Dev nD) : 𝕋 := tallyAt (barCell d) () 1
def recvHalves (d s : Dev nD) : 𝕋 := tallyAt (recvCell d s) () (N + N)

theorem sum_steps (f : Fin 7 → 𝕋) : (∑ k, f k) = (steps.map f).sum := by
  show (Finset.univ.val.map f).sum = _
  rw [show (Finset.univ : Finset (Fin 7)).val = (steps : Multiset (Fin 7)) from by decide, Multiset.map_coe, Multiset.sum_coe]

theorem owedRecv_sum (c : Dev nD) : ∀ ks, owedRecv c ks = (ks.map fun k => recvHalves (peer k c) c).sum
  | [] => rfl
  | k :: ks => by
    rw [List.map_cons, List.sum_cons, ← owedRecv_sum c ks]
    show owedRecv c ks + tallyAt (recvCell (peer k c) c) () N + tallyAt (recvCell (peer k c) c) () N = _
    rw [add_assoc, tallyAt_add, add_comm]; rfl
theorem owedBar_sum (c : Dev nD) (O : 𝕋) : ∀ ks, owedBar c O ks = (ks.map fun k => barUnit (peer k c)).sum + O
  | [] => (zero_add O).symm
  | k :: ks => by
    rw [List.map_cons, List.sum_cons, add_assoc, ← owedBar_sum c O ks, add_comm]; rfl
/-- What a device owes at launch. -/
theorem owed_launch (c : Dev nD) : O₀ c = (∑ k, barUnit (peer k c)) + ∑ k, recvHalves (peer k c) c := by
  unfold O₀
  rw [owedBar_sum, owedRecv_sum, sum_steps, sum_steps]

/-- What a device waits for. -/
def due (c : Dev nD) : 𝕋 := (∑ _k : Fin 7, barUnit c) + ∑ k, recvHalves c (peer k c)

/-- All that is owed is all that is waited for. -/
theorem owed_eq_due : (∑ d, O₀ d) = ∑ d, due d := by
  have hb : (∑ d : Dev nD, ∑ k, barUnit (peer k d)) = ∑ d : Dev nD, ∑ _k : Fin 7, barUnit d := by
    rw [← Fintype.sum_prod_type' (f := fun (d : Dev nD) (k : Fin 7) => barUnit (peer k d)),
      ← Fintype.sum_prod_type' (f := fun (d : Dev nD) (_ : Fin 7) => barUnit d)]
    exact Equiv.sum_comp otherEnd fun p => barUnit p.1
  have hr : (∑ d : Dev nD, ∑ k, recvHalves (peer k d) d) = ∑ d : Dev nD, ∑ k, recvHalves d (peer k d) := by
    rw [← Fintype.sum_prod_type' (f := fun (d : Dev nD) (k : Fin 7) => recvHalves (peer k d) d),
      ← Fintype.sum_prod_type' (f := fun (d : Dev nD) (k : Fin 7) => recvHalves d (peer k d)),
      ← Equiv.sum_comp otherEnd fun p => recvHalves p.1 (peer p.2 p.1)]
    refine Finset.sum_congr rfl fun p _ => ?_
    show recvHalves (peer p.2 p.1) p.1 = recvHalves (peer p.2 p.1) (peer p.2 (peer p.2 p.1))
    rw [peer_peer]
  unfold due
  rw [Finset.sum_congr rfl fun d _ => owed_launch d, Finset.sum_add_distrib, Finset.sum_add_distrib, hb, hr]

/-- A tally on a device's own cell is nowhere else. -/
theorem tally_own (c : Dev nD) (sm : SemLoc sig) (n : ℕ) (g : GSem nD τ sig) (h : g.1 ≠ (c : Thread nD τ)) :
    (tallyAt ((c : Thread nD τ), sm) () n : 𝕋) g = 0 :=
  tallyAt_ne_cell (fun e => h (congrArg Prod.fst e)) () n
theorem due_own (c : Dev nD) (g : GSem nD τ sig) (hg : due c g ≠ 0) : g.1 = (c : Thread nD τ) := by
  by_contra h
  refine hg ?_
  unfold due
  rw [Pi.add_apply, Finset.sum_apply, Finset.sum_apply,
    Finset.sum_eq_zero (f := fun _ : Fin 7 => barUnit c g) fun k _ => tally_own c _ 1 g h,
    Finset.sum_eq_zero (f := fun k : Fin 7 => recvHalves c (peer k c) g) fun k _ => tally_own c _ (N + N) g h, add_zero]

/-- Seven units are one credit of seven. -/
theorem seven_units (c : Dev nD) : (∑ _k : Fin 7, barUnit c) = tallyAt (barCell c) () 7 := by
  rw [sum_steps]
  show barUnit c + (barUnit c + (barUnit c + (barUnit c + (barUnit c + (barUnit c + (barUnit c + 0)))))) = _
  unfold barUnit
  rw [add_zero]
  simp only [tallyAt_add]

/-- The credit a device is dealt: seven units at its barrier cell, and the two halves at each peer's receive cell. -/
theorem credits (c : Dev nD) : BIBase.Entails (PROP := sProp 𝕄) (Pipeline.launchCred O₀ c)
    iprop(cred (tallyAt (barCell c) () 7) ∗ bigSep Finset.univ fun k : Fin 7 => cred (tallyAt (recvCell c (peer k c)) () (N + N))) := by
  rw [Pipeline.launchCred_of_sum O₀ due owed_eq_due due_own c]
  unfold due
  rw [seven_units]
  refine BIBase.Entails.trans (cred_add _ _).1 (sep_mono_right (Entails.of_eq ?_))
  exact Pipeline.cred_finsetSum Finset.univ fun k : Fin 7 => recvHalves c (peer k c)

end Cert.SiluA2A

end
-- ==== Proof.Ghost.lean ====
/-
# The protocol's start

At launch every semaphore is at zero. The semaphores of the exchange become the cells of the protocol, known to every
device; each device keeps its own cells' positions and gets the tokens of the duties it pays.
-/
module

public import proofs.«01_k».proof.Proof.Credits

@[expose] public section

noncomputable section

namespace Cert.SiluA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens, listed -/

/-- No two listed cells are one. -/
theorem cellAt_injective : Function.Injective (cellAt : Dev nD × CI → GSem nD τ sig) := by
  rintro ⟨c, i⟩ ⟨c', i'⟩ h
  have h1 : c = c' := congrArg (fun g : GSem nD τ sig => g.1.1) h
  have h2 : kind (csem i) = kind (csem i') := congrArg (fun g : GSem nD τ sig => kind g.2) h
  subst h1
  have : i = i' := by
    rcases i with u | ⟨k, j⟩ | s <;> rcases i' with u' | ⟨k', j'⟩ | s' <;> unfold csem at h2 <;> dsimp only at h2 <;>
      simp only [kind_bar, kind_send, kind_recv, Kind.send.injEq, Kind.recv.injEq, reduceCtorEq] at h2
    · rfl
    · rw [h2.1, h2.2]
    · rw [h2]
  rw [this]
def exchCells : Finset (GSem nD τ sig) := Finset.univ.map ⟨cellAt, cellAt_injective⟩

/-- The duties of step `k` on device `c`: the entry signal, the two halves leaving, the two halves arriving. -/
abbrev TI : Type := Unit ⊕ Fin 2 ⊕ Fin 2
def tokAt (p : Dev nD × Fin 7 × TI) : GSem nD τ sig × ℕ × Fin 7 :=
  match p.2.2 with
  | .inl _ => (barCell (peer p.2.1 p.1), 0, p.2.1)
  | .inr (.inl h) => (sendCell p.1 p.2.1 h, 0, 0)
  | .inr (.inr h) => (recvCell (peer p.2.1 p.1) p.1, 0, duty h)
theorem duty_inj (h h' : Fin 2) (e : duty h = duty h') : h = h' := by revert h h'; decide
/-- No two duties are one. -/
theorem tokAt_injective : Function.Injective tokAt := by
  rintro ⟨c, k, i⟩ ⟨c', k', i'⟩ e
  have h1 := congrArg (fun x : GSem nD τ sig × ℕ × Fin 7 => x.1.1.1) e
  have h2 := congrArg (fun x : GSem nD τ sig × ℕ × Fin 7 => kind x.1.2) e
  have h3 := congrArg (fun x : GSem nD τ sig × ℕ × Fin 7 => x.2.2) e
  unfold tokAt at h1 h2 h3
  rcases i with u | h | h <;> rcases i' with u' | h' | h' <;> dsimp only at h1 h2 h3 <;>
    simp only [kind_bar, kind_send, kind_recv, Kind.send.injEq, Kind.recv.injEq, reduceCtorEq] at h2
  · subst h3
    have : c = c' := by rw [← peer_peer k c, ← peer_peer k c']; exact congrArg (peer k) h1
    rw [this]
  · obtain ⟨rfl, rfl⟩ := h2
    have : c = c' := h1
    rw [this]
  · subst h2
    have hk : k = k' := peer_inj c k k' h1
    rw [hk, duty_inj h h' h3]
def exchToks : Finset (GSem nD τ sig × ℕ × Fin 7) := Finset.univ.map ⟨tokAt, tokAt_injective⟩

theorem over_cells (Φ : GSem nD τ sig → sProp 𝕄) :
    bigSep exchCells Φ = bigSep Finset.univ fun p : Dev nD × CI => Φ (cellAt p) := by
  unfold exchCells; rw [Idealize.SL.BI.bigSep_map]; rfl

/-- Over two families, one after the other. -/
theorem over_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
theorem over_unit (Φ : Unit → sProp 𝕄) : bigSep Finset.univ Φ = Φ () := bigSep_univ_eq_bigSepL [()] (by decide) (by decide) Φ

/-- Over a device's cells, one kind after the other. -/
theorem over_own (c : Dev nD) (Φ : CI → sProp 𝕄) :
    bigSep Finset.univ Φ = iprop(Φ (.inl ()) ∗ (bigSep Finset.univ fun k : Fin 7 => iprop(Φ (.inr (.inl (k, 0))) ∗ Φ (.inr (.inl (k, 1)))))
      ∗ (Φ (.inr (.inr c)) ∗ bigSep Finset.univ fun k : Fin 7 => Φ (.inr (.inr (peer k c))))) := by
  rw [over_sum, over_sum, over_unit, bigSep_halves, bigSep_peers c]

/-- The tokens of a device's steps. -/
theorem over_toks : bigSep exchToks (fun x => (dutyTok ER x.1 x.2.1 x.2.2 : sProp 𝕄))
    = bigSep Finset.univ fun c : Dev nD => bigSep Finset.univ fun k : Fin 7 => iprop(barTok (F := F) c k ∗ xferTok (F := F) c k) := by
  unfold exchToks
  rw [Idealize.SL.BI.bigSep_map, bigSep_univ_prod]
  refine bigSep_congr fun c _ => ?_
  rw [bigSep_univ_prod]
  refine bigSep_congr fun k _ => ?_
  rw [over_sum, over_sum, over_unit, bigSep_univ_two, bigSep_univ_two]
  rfl

/-! ## The semaphores at launch -/

/-- The semaphores a device's kernel names as its own: the local copies', the sends', the receives'. -/
def osem : (Fin 2 ⊕ Fin 2) ⊕ (Fin 7 × Fin 2) ⊕ Dev nD → SemLoc sig
  | .inl (.inl h) => .dma (wSem h)
  | .inl (.inr h) => .dma (sSem h)
  | .inr i => csem (.inr i)
theorem ownSemFacts : Pipeline.OwnSemFacts cfg0.spec osem := by decide +kernel

/-- The one semaphore outside the kernel's own is the barrier's. -/
theorem unscoped_eq (c : Dev nD) : (unscopedSems0 c : sProp 𝕄) = semVal (barCell c) 0 := by
  unfold unscopedSems0
  rw [bigSep_eq_bigSepL_of_eq [SemLoc.reg barS] (by decide) (by decide)]; rfl
theorem own_eq (c : Dev nD) : (Pipeline.ownSems0 osem c : sProp 𝕄)
    = iprop(ownZero (F := F) c ∗ bigSep Finset.univ fun i : (Fin 7 × Fin 2) ⊕ Dev nD => semVal ((c : Thread nD τ), csem (.inr i)) 0) := by
  unfold Pipeline.ownSems0
  rw [over_sum, over_sum, bigSep_univ_two, bigSep_univ_two]
  rfl
/-- A device's semaphores at zero are the local copies' and its cells'. -/
theorem sems_launch (c : Dev nD) : BIBase.Entails (PROP := sProp 𝕄) iprop(Pipeline.ownSems0 osem c ∗ unscopedSems0 c)
    iprop(ownZero (F := F) c ∗ bigSep Finset.univ fun i : CI => semVal (cellAt (c, i)) 0) := by
  rw [own_eq, unscoped_eq, over_sum (fun i : CI => semVal (cellAt (c, i)) 0), over_unit]
  iintro ⟨⟨HO, HX⟩, HB⟩
  isplitl [HO]; · iexact HO
  isplitl [HB]; · iexact HB
  iexact HX
/-- At the end they are given back. -/
theorem sems_back (c : Dev nD) : BIBase.Entails (PROP := sProp 𝕄) iprop(exchZero (F := F) c ∗ ownZero (F := F) c)
    iprop(unscopedSems0 c ∗ Pipeline.ownSems0 osem c) := by
  rw [own_eq, unscoped_eq, over_sum, bigSep_halves, bigSep_peers c]
  unfold exchZero
  iintro ⟨⟨HB, HS, HR⟩, HO⟩
  isplitl [HB]; · iexact HB
  isplitl [HO]; · iexact HO
  isplitl [HS]; · iexact HS
  iexact HR

/-! ## The cells made -/

variable (X : Dev nD → Vec F S512x4096 .f32) (Wt : Dev nD → Vec F S4096x8192 .f32)

/-- What every device comes to know. -/
def known (κ : Dev nD × CI → ℕ) : sProp 𝕄 :=
  iprop((bigSep Finset.univ fun p : Dev nD × CI => cellInv ER (Rd X Wt) (κ p) (cellAt p))
    ∗ bigSep Finset.univ fun p : Dev nD × CI => reached ER (cellAt p) 0)
instance known_persistent (κ : Dev nD × CI → ℕ) : BI.Persistent (known X Wt κ) := by unfold known; infer_instance

/-- What a device keeps: its cells' positions, and the tokens of the duties it pays. -/
def kept (c : Dev nD) : sProp 𝕄 :=
  iprop((bigSep Finset.univ fun i : CI => atPos ER (cellAt (c, i)) 0 ∅ 0)
    ∗ bigSep Finset.univ fun k : Fin 7 => iprop(barTok (F := F) c k ∗ xferTok (F := F) c k))

/-- The protocol's share of the launch element. -/
def u₁ : UB := initOf exchCells exchToks
/-- It is handed to the first device. -/
def deal (c : Dev nD) : sProp 𝕄 := if c = 0 then BI.own (ER u₁) else iprop(emp)
theorem deal_all : BIBase.Entails (PROP := sProp 𝕄) (BI.own (ER u₁)) (bigSep Finset.univ (deal (F := F))) := by
  rw [bigSep_univ_at (deal (F := F)) 0, bigSep_congr (Φ := deal (F := F)) (Ψ := fun _ => (iprop(emp) : sProp 𝕄)) fun c hc => if_neg (Finset.mem_erase.mp hc).1]
  iintro H
  isplitl
  · iapply (Entails.of_eq (show BI.own (ER u₁) = deal (F := F) 0 from (if_pos rfl).symm)); iexact H
  · iapply (Entails.of_eq (bigSep_emp_const _).symm); iempintro
theorem deal_back : BIBase.Entails (PROP := sProp 𝕄) (bigSep Finset.univ (deal (F := F))) (BI.own (ER u₁)) := by
  refine BIBase.Entails.trans (bigSep_elim (Finset.mem_univ (0 : Dev nD))) (Entails.of_eq (if_pos rfl))

/-- The launch element split into the pipeline's share and the protocol's. -/
theorem own_split (a : UR sig nD τ) (b : UB) :
    BIBase.Entails (PROP := sProp 𝕄) (ownU ((a, (b, 1)) : UU)) iprop(BI.own (EP a) ∗ BI.own (ER b)) := by
  refine BIBase.Entails.trans (ownU_pair a (b, (1 : Counters))) (sep_mono_right (Entails.of_eq ?_))
  unfold ER
  rfl

/-- All the cells made at once: from every cell's semaphore at zero and the protocol's share. -/
theorem make_cells :
    BIBase.Entails (PROP := sProp 𝕄)
      iprop((bigSep Finset.univ fun p : Dev nD × CI => semVal (cellAt p) 0) ∗ BI.own (ER u₁))
      iprop(|={Set.univ}=> ∃ κ, known X Wt κ ∗ bigSep Finset.univ fun c : Dev nD => kept (F := F) c) := by
  iintro ⟨Hv, Hu⟩
  imod (show BIBase.Entails (PROP := sProp 𝕄) (BI.own (ER u₁)) _ from Rounds.fund ER (Rd X Wt) exchCells exchToks) $$ Hu with ⟨Hst, Hr, Hat, Htok⟩
  ihave Hst := (Entails.of_eq (over_cells _)) $$ Hst
  ihave Hr := (Entails.of_eq (over_cells _)) $$ Hr
  ihave Hat := (Entails.of_eq ((over_cells _).trans (bigSep_univ_prod _))) $$ Hat
  ihave Htok := (Entails.of_eq over_toks) $$ Htok
  ihave Hb := (show iprop((bigSep Finset.univ fun p : Dev nD × CI => semVal (cellAt p) 0) ∗ bigSep Finset.univ fun p : Dev nD × CI => roundState ER (Rd X Wt) (cellAt p) 0)
      ⊢ (bigSep Finset.univ fun p : Dev nD × CI => Rounds.body ER (Rd X Wt) (cellAt p) : sProp 𝕄) from by
        rw [← bigSep_sep']; exact bigSep_mono fun p _ => Rounds.body_intro ER (Rd X Wt) (cellAt p)) $$ [Hv Hst]
  · isplitl [Hv] <;> iassumption
  imod (inv_alloc_family Finset.univ (fun p : Dev nD × CI => Rounds.body ER (Rd X Wt) (cellAt p)) ∅) $$ Hb with ⟨%κ, -, HI⟩
  imodintro
  iexists κ
  isplitl [HI Hr]
  · unfold known
    isplitl [HI] <;> iassumption
  iapply (Entails.of_eq (show _ = bigSep Finset.univ fun c : Dev nD => kept (F := F) c from (bigSep_sep' Finset.univ
    (fun c : Dev nD => bigSep Finset.univ fun i : CI => (atPos ER (cellAt (c, i)) 0 ∅ 0 : sProp 𝕄))
    (fun c : Dev nD => bigSep Finset.univ fun k : Fin 7 => iprop(barTok (F := F) c k ∗ xferTok (F := F) c k))).symm))
  isplitl [Hat] <;> iassumption

/-- What a device starts its run from. -/
def start (c : Dev nD) : sProp 𝕄 := iprop((∃ κ, known X Wt κ ∗ kept (F := F) c) ∗ ownZero (F := F) c)

/-- The launch's step over all the devices. -/
theorem start_all :
    BIBase.Entails (PROP := sProp 𝕄)
      (bigSep Finset.univ fun c : Dev nD => iprop(Pipeline.ownSems0 osem c ∗ unscopedSems0 c ∗ deal (F := F) c))
      iprop(|={Set.univ}=> bigSep Finset.univ (start X Wt)) := by
  refine BIBase.Entails.trans (Q := bigSep Finset.univ fun c : Dev nD =>
    iprop((ownZero (F := F) c ∗ bigSep Finset.univ fun i : CI => semVal (cellAt (c, i)) 0) ∗ deal (F := F) c))
    (bigSep_mono fun c _ => ?_) ?_
  · show BIBase.Entails (PROP := sProp 𝕄) _ _
    iintro ⟨Ho, Hu, Hd⟩
    isplitl [Ho Hu]
    · iapply (sems_launch c); isplitl [Ho] <;> iassumption
    iexact Hd
  rw [bigSep_sep', bigSep_sep', ← bigSep_univ_prod (fun p : Dev nD × CI => (semVal (cellAt p) 0 : sProp 𝕄))]
  show BIBase.Entails (PROP := sProp 𝕄) _ _
  iintro ⟨⟨Ho, Hv⟩, Hd⟩
  ihave Hd := (deal_back (F := F)) $$ Hd
  imod (make_cells X Wt) $$ [Hv Hd] with ⟨%κ, #HK, Hk⟩
  · isplitl [Hv] <;> iassumption
  imodintro
  iapply (show BIBase.Entails (PROP := sProp 𝕄)
    iprop(bigSep Finset.univ (fun _ : Dev nD => known X Wt κ) ∗ bigSep Finset.univ (fun c : Dev nD => kept (F := F) c) ∗ bigSep Finset.univ (fun c : Dev nD => ownZero (F := F) c))
    (bigSep Finset.univ (start X Wt)) from by
      rw [← bigSep_sep', ← bigSep_sep']
      refine bigSep_mono fun c _ => ?_
      show BIBase.Entails (PROP := sProp 𝕄) _ _
      unfold start
      iintro ⟨HK, Hk, Ho⟩
      isplitl [HK Hk]
      · iexists κ; isplitl [HK] <;> iassumption
      iexact Ho)
  isplitr
  · iapply (BI.bigSep_of_persistent Finset.univ (known X Wt κ)); iexact HK
  isplitl [Hk] <;> iassumption

/-- What a device keeps, with its credits, is what its body starts from. -/
theorem ghost_intro (c : Dev nD) :
    BIBase.Entails (PROP := sProp 𝕄) iprop(kept (F := F) c ∗ Pipeline.launchCred O₀ c) (ghost (F := F) c) := by
  unfold kept ghost
  rw [over_own c, bigSep_sep' _ (fun k : Fin 7 => barTok (F := F) c k)]
  iintro ⟨⟨⟨HB, HS, HR, HRs⟩, Ht, HX⟩, Hcr⟩
  ihave Hcr := (credits c) $$ Hcr
  icases Hcr with ⟨HcB, HcR⟩
  isplitl [HB HcB]
  · isplitl [HB]; · iexact HB
    iexact HcB
  isplitl [Ht]; · iexact Ht
  isplitl [HX]; · iexact HX
  isplitl [HS]; · iexact HS
  isplitl [HRs HcR]
  · unfold drainTok
    rw [bigSep_sep']
    isplitl [HRs]; · iexact HRs
    iexact HcR
  iexact HR

end Cert.SiluA2A

end
-- ==== Proof.Launch.lean ====
/-
# The run of the whole mesh

Every weakly fair execution of the program on the eight devices terminates; every final state has each device's result at
`OUT`, its arguments unchanged and every semaphore at zero. Over any float values.
-/
module

public import proofs.«01_k».proof.Proof.Ghost
public import proofs.«01_k».proof.Proof.Gen.KernelIdeal.Points
public import Idealize.ShloMosaic.Lib.Pipeline.CollectiveSegs

@[expose] public section

noncomputable section

namespace Cert.SiluA2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device is given -/

/-- Device `c`'s rows, as its staging buffer gets them. -/
def xIn (c : Dev nD) : Vec F S512x4096 .f32 := (win0_0.blk (0 : Fin 1)).view.read (Elt F) (m ((c : Thread nD τ).loc main_arg0))
/-- Its weight. -/
def wIn (c : Dev nD) : Vec F S4096x8192 .f32 := m ((c : Thread nD τ).loc main_arg1)

/-- What the body starts from, besides its rows and what it owes. -/
def before₀ (c : Dev nD) : sProp 𝕄 :=
  iprop((∃ κ, ctx (xIn m) (wIn m) κ ∗ ghost (F := F) c) ∗ ownZero (F := F) c ∗ scratch (F := F) c
    ∗ (((c : Thread nD τ).loc main_arg1) ↦{fullShare} wIn m c) ∗ someOf (F := F) c main_v1)
/-- What it leaves, besides its rows. -/
def after₀ (c : Dev nD) : sProp 𝕄 :=
  iprop(exchZero (F := F) c ∗ ownZero (F := F) c ∗ scratch (F := F) c
    ∗ (((c : Thread nD τ).loc main_arg1) ↦{fullShare} wIn m c) ∗ (((c : Thread nD τ).loc main_v1) ↦{fullShare} OUT (xIn m) (wIn m) c))

/-- The run's data: the one point, its window, and what is held and owed before and after it. -/
def dats (_ : Fin 1) (c : Dev nD) : Dat τ (Elt F) Unit ℕ UU ℕ cfg0 c where
  A w := m ((cfg0.win w).arr.view.loc (c : Thread nD τ))
  after w _ := match w with
    | ⟨0, _⟩ => xIn m c
  Φ t := match t with
    | ⟨0, _⟩ => before₀ m c
    | ⟨_ + 1, _⟩ => after₀ m c
  q _ := fullShare
  owed t := match t with
    | ⟨0, _⟩ => O₀ c
    | ⟨_ + 1, _⟩ => 0

/-! ## The body at the point -/

theorem fetched0 (t : Fin cfg0.N) : (cfg0.win (0 : Fin 1)).fetch t = true := fetch0_0 t

theorem staged_eq (c : Dev nD) (f : Vec F S512x4096 .f32) :
    (owns (c : Thread nD τ) (Memref.whole cc0_stg0_0) fullShare f : sProp 𝕄)
      = iprop(∃ g : Buf (Elt F) ((c : Thread nD τ).loc cc0_stg0_0), ⌜g = f⌝ ∗ (((c : Thread nD τ).loc cc0_stg0_0) ↦{fullShare} g)) :=
  owns_whole_eq (c : Thread nD τ) cc0_stg0_0 fullShare f

/-- The held things at the point, in one piece. -/
def pointPre (c : Dev nD) : sProp 𝕄 :=
  iprop(before₀ m c ∗ (dats m 0 c).owesAt () t0_0.castSucc
    ∗ (∃ d, owns (c : Thread nD τ) (Memref.whole cc0_stg0_0) fullShare ((dats m 0 c).before (0 : Fin 1) t0_0 d)))
def pointPost (c : Dev nD) : sProp 𝕄 :=
  iprop(after₀ m c ∗ (dats m 0 c).owesAt () t0_0.succ
    ∗ owns (c : Thread nD τ) (Memref.whole cc0_stg0_0) fullShare (xIn m c))

theorem point_body (c : Dev nD) :
    BIBase.Entails (PROP := sProp 𝕄) (pointPre m c) (runs c (bodyOf c) fun _ => pointPost m c) := by
  unfold pointPre before₀
  iintro ⟨⟨⟨%κ, HC, Hg⟩, Hz, Hs, HA, Ho⟩, HO, %d, Hx⟩
  ihave Hx := (Entails.of_eq (staged_eq c _)) $$ Hx
  icases Hx with ⟨%g, %hg, Hx⟩
  have hx : g = xIn m c := by rw [hg]; unfold Dat.before; rw [if_pos (fetched0 t0_0)]; rfl
  subst hx
  unfold Dat.owesAt Pipeline.owesWithin
  rw [show (dats m 0 c).owed t0_0.castSucc = O₀ c from rfl]
  icases HO with ⟨%W, -, HO⟩
  iapply (run_body (xIn m) (wIn m) κ c (fun _ => pointPost m c)) $$ [HC Hg Hz Hs Hx HA Ho HO]
  · isplitl [HC]; · iexact HC
    isplitl [Hg]; · iexact Hg
    isplitl [Hz]; · iexact Hz
    isplitl [Hs]; · iexact Hs
    isplitl [Hx]; · unfold xP; iexact Hx
    isplitl [HA]; · iexact HA
    isplitl [Ho]; · iexact Ho
    unfold owed
    iexists W; iexact HO
  unfold after pointPost after₀ owed xP
  iintro ⟨He, Hz, Hs, Hx, HA, Ho, %W', HO⟩
  isplitl [He Hz Hs HA Ho]
  · isplitl [He]; · iexact He
    isplitl [Hz]; · iexact Hz
    isplitl [Hs]; · iexact Hs
    isplitl [HA]; · iexact HA
    iexact Ho
  isplitl [HO]
  · unfold Dat.owesAt Pipeline.owesWithin
    rw [show (dats m 0 c).owed t0_0.succ = 0 from rfl]
    iexists W'
    isplitr; · ipureintro; exact fun _ _ => Or.inl trivial
    iexact HO
  iapply (Entails.of_eq (staged_eq c _).symm)
  iexists _
  isplitr; · (ipureintro; rfl)
  iexact Hx

/-- A program on device `c` that reads its own number. -/
theorem read_id (B : Dev nD → P F) (c : Dev nD) (Q : PUnit → sProp 𝕄) :
    runs c (.op .deviceId B) Q = runs c (B c) Q := wp_deviceId ..

set_option maxRecDepth 65536 in
/-- The body's obligation on device `c`. -/
theorem body_obligation (c : Dev nD) : BodyObligation (dats (F := F) m 0 c) (defs₀ (F := F)) 𝒱₀ () Set.univ := fun t => by
  rw [fin_N0 t]
  rw [bigSep_W0, bigSep_W0]
  show pointPre m c ⊢ wp frame (wpE (defs₀ (F := F)) 𝒱₀ (c : Thread nD τ) none) Set.univ
    (cc0_body (F := F) xM (Memref.isWhole_whole _) wM (Memref.isWhole_whole _) oM (Memref.isWhole_whole _)
      bM (Memref.isWhole_whole _) yM (Memref.isWhole_whole _) rM (Memref.isWhole_whole _) sM (Memref.isWhole_whole _)
      cc0_scratch4 cc0_scratch5 cc0_scratch6 cc0_scratch7) (fun _ => pointPost m c)
  rw [body_eq]
  exact BIBase.Entails.trans (point_body m c) (Entails.of_eq (read_id bodyOf c _).symm)

/-! ## The launch -/

theorem share_full (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t =>
    mayWait c _ 0 (by revert w s; decide +kernel) (by
      rcases t with ⟨_ | _, ht⟩
      · exact above_owedBar c (above_owedRecv (by decide) c steps) steps
      · exact above_zero 0)

/-- What a device enters its region with. -/
def entered (c : Dev nD) : sProp 𝕄 :=
  iprop((∃ κ, ctx (xIn m) (wIn m) κ ∗ ghost (F := F) c) ∗ ownZero (F := F) c
    ∗ (((c : Thread nD τ).loc main_arg1) ↦{fullShare} wIn m c) ∗ someOf (F := F) c main_v1)
/-- What it comes out with. -/
def left (c : Dev nD) : sProp 𝕄 :=
  iprop(unscopedSems0 c ∗ (((c : Thread nD τ).loc main_arg1) ↦{fullShare} wIn m c)
    ∗ (((c : Thread nD τ).loc main_v1) ↦{fullShare} OUT (xIn m) (wIn m) c))

theorem enter (c : Dev nD) :
    BIBase.Entails (PROP := sProp 𝕄)
      iprop(Pipeline.unscopedRestP Pipeline.Prefetch.none cfg0.spec c (fun b => m ((c : Thread nD τ).loc b)) ∗ levAts L lv
        ∗ Pipeline.launchCred O₀ c ∗ prngReg c (ρ c) ∗ start (xIn m) (wIn m) c)
      iprop(|={Set.univ}=> iprop(entered m c ∗ emp)) := by
  rw [Pipeline.unscopedRestP_none, unscopedRest0_eq]
  unfold start
  iintro ⟨⟨HA, Ho⟩, Hlev, Hcr, -, ⟨%κ, HK, Hk⟩, Hz⟩
  ihave Hg := (ghost_intro c) $$ [Hk Hcr]
  · isplitl [Hk] <;> iassumption
  imodintro
  unfold entered
  isplitl
  · isplitl [HK Hlev Hg]
    · iexists κ
      isplitl [HK Hlev]
      · unfold known ctx
        icases HK with ⟨H1, H2⟩
        isplitl [H1]; · iexact H1
        isplitl [H2]; · iexact H2
        iexact Hlev
      iexact Hg
    isplitl [Hz]; · iexact Hz
    isplitl [HA]; · iexact HA
    unfold someOf
    iexists _; iexact Ho
  iempintro

theorem enter_point (c : Dev nD) :
    BIBase.Entails (PROP := sProp 𝕄)
      iprop(entered m c ∗ Pipeline.prefHeld Pipeline.Prefetch.none c (fun _ => fullShare.right) (fun k => k.elim0) ∗ Pipeline.scopedRest cfg0.spec c)
      ((dats m 0 c).Φ 0) := by
  rw [show (dats m 0 c).Φ 0 = before₀ m c from rfl, scopedRest0_eq]
  unfold entered before₀
  iintro ⟨⟨HC, Hz, HA, Ho⟩, -, Hs⟩
  isplitl [HC]; · iexact HC
  isplitl [Hz]; · iexact Hz
  isplitl [Hs]
  · unfold scratch someOf; iexact Hs
  isplitl [HA]; · iexact HA
  iexact Ho

theorem leave_point (c : Dev nD) :
    BIBase.Entails (PROP := sProp 𝕄) ((dats m 0 c).Φ (Fin.last cfg0.N))
      iprop(left m c ∗ Pipeline.ownSems0 osem c ∗ Pipeline.scopedRest cfg0.spec c) := by
  rw [show (dats m 0 c).Φ (Fin.last cfg0.N) = after₀ m c from rfl, scopedRest0_eq]
  unfold after₀ left
  iintro ⟨He, Hz, Hs, HA, Ho⟩
  ihave H := (sems_back c) $$ [He Hz]
  · isplitl [He] <;> iassumption
  icases H with ⟨Hu, Hown⟩
  isplitl [Hu HA Ho]
  · isplitl [Hu]; · iexact Hu
    isplitl [HA] <;> iassumption
  isplitl [Hown]; · iexact Hown
  unfold scratch someOf
  iexact Hs

/-- What is read off the final memory of a device. -/
def Read (c : Dev nD) (s : MemSt nD τ sig (Elt F)) : Prop :=
  (∀ sm : SemLoc sig, sm.isScoped .tc = false → s.sem ((c.tc : Thread nD τ), sm) = 0)
    ∧ s.mem ((c : Thread nD τ).loc main_arg1) = wIn m c ∧ s.mem ((c : Thread nD τ).loc main_v1) = OUT (xIn m) (wIn m) c

theorem read_one (ℓ : Loc nD τ sig) (f : Buf (Elt F) ℓ) (s' : Phys nD τ sig (Elt F)) :
    BIBase.Entails (PROP := sProp 𝕄) iprop((ℓ ↦{fullShare} f) ∗ SI s') iprop(⌜s'.mem.mem ℓ = f⌝ ∗ SI s') := by
  iintro ⟨H, HSI⟩
  icombine HSI H gives %h
  isplitr
  · ipureintro; exact Buf.eq_of_forall_mem_univ h
  iexact HSI

theorem read_left (c : Dev nD) (s' : Phys nD τ sig (Elt F)) :
    BIBase.Entails (PROP := sProp 𝕄) iprop(left m c ∗ emp ∗ SI s') iprop(|={Set.univ}=> iprop(⌜Read m c s'.mem⌝ ∗ SI s')) := by
  unfold left
  iintro ⟨⟨Hu, HA, Ho⟩, -, HSI⟩
  ihave H := (read_one _ _ s') $$ [HA HSI]
  · isplitl [HA] <;> iassumption
  icases H with ⟨%hA, HSI⟩
  ihave H := (read_one _ _ s') $$ [Ho HSI]
  · isplitl [Ho] <;> iassumption
  icases H with ⟨%hO, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hA, hO⟩
  iexact HSI

/-- The launch element: the pipeline's, the protocol's, and no counter held. -/
def u₀ : UU := (initOf (Pipeline.cells cfgs cellOf_inj) (Pipeline.launchToks cfgs cellOf_inj), (u₁, 1))

/-! ## The run -/

/-- A final state: each device's result, its arguments unchanged, every semaphore at zero. -/
def Final (r : PUnit × MemSt nD τ sig (Elt F)) : Prop :=
  (∀ c : Dev nD, r.2.mem ((c : Thread nD τ).loc main_v1) = OUT (xIn m) (wIn m) c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

set_option maxRecDepth 8000 in
/-- The run of the mesh. -/
theorem run_main : θ_run defs (onTc (τ := τ) (main (F := F))) ⟨m, fun _ => 0, ρ⟩ (Final m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := deal) (G' := start (xIn m) (wIn m)) (u₀ := u₀)
    (hu₀ := by
      unfold u₀
      iintro Hu
      ihave H := (own_split _ _) $$ Hu
      icases H with ⟨HP, HX⟩
      imodintro
      isplitl [HP]; · iexact HP
      iapply (deal_all (F := F)); iexact HX)
    (hglob := start_all (xIn m) (wIn m))
    (hA := fun _ _ => rfl) (hpf := fun _ k => k.elim0)
    (X := entered m) (Y := left m) (Z := fun _ => iprop(emp))
    (hX := enter m ρ) (hin := enter_point m) (hout := leave_point m)
    (QY := Read m)
    (hY := read_left m)
    (hQ := fun s h hs => ⟨fun c => ⟨(h c).2.2.2.2, ((h c).1 0).trans ((dats (F := F) m 0 c).arrAt_in (0 : Fin 1) rfl _), (h c).2.2.2.1⟩,
      sem_eq_zero hs fun c => (h c).2.2.1⟩)

end Cert.SiluA2A

end
-- ==== Proof.Agree.lean ====
/-
# The mesh's result is the reference's

Eight devices holding eight blocks of rows and the whole weight leave eight blocks of columns of the array whose every entry
is the gate of its row's and column's inner product.
-/
module

public import proofs.«01_k».proof.Proof.ReferenceValue
public import proofs.«01_k».proof.Proof.Launch
public import Idealize.ShloMosaic.Lib.Layout

@[expose] public section

noncomputable section

namespace Cert.SiluA2A

open Cert.KernelIdeal Cert.KernelIdeal.Gen
open Idealize.ShloMosaic Idealize.ShloMosaic.TcCoe Idealize.SL.Sem
open scoped BigOperators

/-- The whole array of rows. -/
abbrev Rows : Type := FVec Ideal ⟨2, ![4096, 4096]⟩ .f32
/-- The weight. -/
abbrev Weight : Type := FVec Ideal ⟨2, ![4096, 8192]⟩ .f32

/-- Device `c`'s block of the rows. -/
def rowBlock (x : Rows) (c : Dev nD) : Vec Ideal S512x4096 .f32 := Layout.block ⟨2, ![512, 4096]⟩ ⟨2, ![4096, 4096]⟩ 0 8 c x

theorem row_in (c : Dev nD) (a : Fin 512) : c.val * 512 + a.val < 4096 := by
  have : c.val < 8 := c.isLt; have := a.isLt; omega

/-- Row `a` of device `c`'s block is row `512 c + a`. -/
theorem rowBlock_at (x : Rows) (c : Dev nD) (a : Fin 512) (k : Fin 4096) :
    rowBlock x c (ix2 a k) = x (ix2 ⟨c.val * 512 + a.val, row_in c a⟩ k) := congrArg x (ext2 rfl rfl)

/-- An inner product with a device's row is one with a row of the whole array. -/
theorem inner_rowBlock (x : Rows) (w : Weight) (c : Dev nD) (a : Fin 512) (b : Fin 8192) :
    inner (M := 512) (K := 4096) (N := 8192) (rowBlock x c) w a b = inner x w ⟨c.val * 512 + a.val, row_in c a⟩ b :=
  Finset.sum_congr rfl fun k _ => congrArg (· * _) (rowBlock_at x c a k)

/-- **The result of device `c`** is its block of columns of any array whose entries are the gates of the inner products. -/
theorem OUT_block (x : Rows) (w : Weight) (v : FVec Ideal ⟨2, ![4096, 8192]⟩ .f32) (c : Dev nD)
    (hv : ∀ j, v j = gate (inner x w (j 0) (j 1))) :
    OUT (F := Ideal) (rowBlock x) (fun _ => w) c = Layout.block ⟨2, ![4096, 1024]⟩ ⟨2, ![4096, 8192]⟩ 1 8 c v := by
  funext i
  refine (OUT_ideal _ _ c i).trans ?_
  refine (congrArg gate ?_).trans (hv _).symm
  refine (inner_rowBlock x w ⟨(i 0).val / 512, row_lt (lt2_0 i)⟩ (inHalf (i 0)) ⟨1024 * c.val + (i 1).val, col_lt c (lt2_1 i)⟩).trans ?_
  refine congrArg₂ (inner x w) (Fin.ext ?_) (Fin.ext ?_)
  · show (i 0).val / 512 * 512 + (i 0).val % 512 = (i 0).val
    omega
  · show 1024 * c.val + (i 1).val = c.val * 1024 + (i 1).val
    omega

/-- The precondition of every device together: every inner product of the whole arrays is between the bounds. -/
theorem bounds_whole (x : Rows) (w : Weight)
    (h : ∀ c : Dev nD, Cert.Pre_in_range_KernelIdeal.fn (F := Ideal) (rowBlock x c) w = fun _ => 1#1) (a : Fin 4096) (b : Fin 8192) :
    lo ≤ inner x w a b ∧ inner x w a b ≤ hi := by
  let c : Dev nD := ⟨a.val / 512, row_lt a.isLt⟩
  let r : Fin 512 := ⟨a.val % 512, Nat.mod_lt _ (by decide)⟩
  have e : inner (M := 512) (K := 4096) (N := 8192) (rowBlock x c) w r b = inner x w a b :=
    (inner_rowBlock x w c r b).trans (congrArg (inner x w · b) (Fin.ext (by show a.val / 512 * 512 + a.val % 512 = a.val; omega)))
  have hb := bounds_of_pre (rowBlock x c) w (h c) r b
  rw [e] at hb
  exact hb

/-- The one window's block is the whole array of a device's rows. -/
theorem xIn_eq {F : FTy → Type} [FloatOps F] (m : (ℓ : Loc nD τ sig) → Buf (Elt F) ℓ) (c : Dev nD) :
    xIn m c = m ((c : Thread nD τ).loc main_arg0) := by
  funext i
  exact congrArg (m ((c : Thread nD τ).loc main_arg0)) (show (_ : S512x4096.Idx) = i from ext2 (Nat.zero_add _ |>.trans (Nat.one_mul _)) (Nat.zero_add _ |>.trans (Nat.one_mul _)))

end Cert.SiluA2A

end
-- ==== Proof.SameProgram.lean ====
/-
# The kernel and its reading over the extended reals are one program

The two modules have the same text, so a run of the one, over the bit patterns, is a run of the other.
-/
module

public import proofs.«01_k».proof.Defs
public import proofs.«01_k».proof.Proof.Gen.Kernel
public import proofs.«01_k».proof.Proof.Gen.KernelIdeal

@[expose] public section

namespace Cert.SiluA2A

open Idealize.ShloMosaic Idealize.SL.Sem Idealize.ShloMosaic.TcCoe

/-- The two tables of kernel bodies agree at their one label. -/
theorem bodies_same : Cert.Kernel.defs₀ (F := Bits) = Cert.KernelIdeal.defs₀ (F := Bits) := by
  refine congrArg (Defs.onTc (nD := Cert.KernelIdeal.nD) (τ := Cert.KernelIdeal.τ) (sig := Cert.KernelIdeal.sig) (Λ := Cert.KernelIdeal.Λ₀)) ?_
  funext l a
  match l, a with
  | ⟨0, _⟩, (t, s) => rfl

/-- So do the tables with the launch's own bodies added. -/
theorem table_same : Cert.Kernel.defs (F := Bits) = Cert.KernelIdeal.defs (F := Bits) :=
  congrArg (Pipeline.defs (Cert.KernelIdeal.pcfgs (F := Bits))) bodies_same

/-- A run of the one is a run of the other. -/
theorem program_same (s : MemSt Cert.KernelIdeal.nD Cert.KernelIdeal.τ Cert.KernelIdeal.sig (Elt Bits))
    (Q : (PUnit × MemSt Cert.KernelIdeal.nD Cert.KernelIdeal.τ Cert.KernelIdeal.sig (Elt Bits)) → Prop)
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q :=
  Eq.mpr (congrArg (fun D => θ_run D (onTc (τ := Cert.KernelIdeal.τ) (Cert.KernelIdeal.main (F := Bits))) s Q) table_same) h

end Cert.SiluA2A

end
-- ==== Proof.lean ====
/-
# The claims

One run of the mesh (`Cert.SiluA2A.run_main`, over any float values) gives the frames of the kernel and of its reading over the
extended reals; with the values (`Cert.SiluA2A.OUT_block`) it gives the two value claims. The references' runs are the generated
ones.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.UnclippedIdeal
public import proofs.«01_k».proof.Proof.Gen.ReferenceIdeal.Run
public import proofs.«01_k».proof.Proof.Gen.UnclippedIdeal.Run
public import proofs.«01_k».proof.Proof.Gen.Pre_in_range_KernelIdeal
public import proofs.«01_k».proof.Proof.Gen.Pre_in_range_ReferenceIdeal
public import proofs.«01_k».proof.Proof.Agree
public import proofs.«01_k».proof.Proof.SameProgram
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.TcCoe

attribute [local instance] Cert.Kernel.Gen.facts Cert.KernelIdeal.Gen.facts Cert.ReferenceIdeal.Gen.facts Cert.UnclippedIdeal.Gen.facts
  Cert.Pre_in_range_KernelIdeal.Gen.facts Cert.Pre_in_range_ReferenceIdeal.Gen.facts

/-- The kernel terminates, leaves its arguments alone and every semaphore at zero. -/
theorem frame_kernel : Cert.quiescent_Kernel := fun m g _ =>
  Cert.SiluA2A.program_same _ _
    ((θ_run Cert.KernelIdeal.defs _ _).mono (fun _ h => ⟨fun c => (h.1 c).2, h.2⟩) (Cert.SiluA2A.run_main (F := Bits) m g))

/-- So does its reading over the extended reals, -/
theorem frame_ideal : Cert.quiescent_KernelIdeal := fun m g _ =>
  (θ_run Cert.KernelIdeal.defs _ _).mono (fun _ h => ⟨fun c => (h.1 c).2, h.2⟩) (Cert.SiluA2A.run_main (F := Ideal) m g)

/-- under the precondition too. -/
theorem frame_ideal_pre : Cert.quiescent_KernelIdeal_pre_in_range_KernelIdeal := fun m g _ => frame_ideal m g trivial

/-- The reference, which has no semaphore, terminates and leaves its arguments alone, -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- under the precondition too; -/
theorem frame_reference_pre : Cert.quiescent_ReferenceIdeal_pre_in_range_ReferenceIdeal := fun m g _ => frame_reference m g trivial

/-- and so does the reference without the clip. -/
theorem frame_unclipped : Cert.quiescent_UnclippedIdeal := fun m g _ =>
  (θ_run Cert.UnclippedIdeal.defs _ _).mono (fun r h => ⟨fun c => (h c).2, sem_eq_zero_of_no_sems rfl r.2⟩)
    (Cert.UnclippedIdeal.Value.run (F := Ideal) m g)

/-- What the mesh leaves, for rows `x` cut among the devices, a weight `w` on each, and any array `v` whose entries are the gates
    of the inner products: each device holds its block of columns of `v`. -/
theorem mesh_leaves (m : (ℓ : Loc Cert.KernelIdeal.nD Cert.KernelIdeal.τ Cert.KernelIdeal.sig) → Buf (Elt Ideal) ℓ)
    (g : Dev Cert.KernelIdeal.nD → PrngReg) (x : Cert.SiluA2A.Rows) (w : Cert.SiluA2A.Weight) (v : FVec Ideal ⟨2, ![4096, 8192]⟩ .f32)
    (hx : ∀ c : Dev Cert.KernelIdeal.nD, m ((c.tc : Thread Cert.KernelIdeal.nD Cert.KernelIdeal.τ).loc Cert.KernelIdeal.main_arg0) = Cert.SiluA2A.rowBlock x c)
    (hw : ∀ c : Dev Cert.KernelIdeal.nD, m ((c.tc : Thread Cert.KernelIdeal.nD Cert.KernelIdeal.τ).loc Cert.KernelIdeal.main_arg1) = w)
    (hv : ∀ j, v j = Cert.SiluA2A.gate (Cert.SiluA2A.inner x w (j 0) (j 1))) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v1)
          = Layout.block ⟨2, ![4096, 1024]⟩ ⟨2, ![4096, 8192]⟩ 1 8 c v
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) := by
  have ex : Cert.SiluA2A.xIn (F := Ideal) m = Cert.SiluA2A.rowBlock x := funext fun c => (Cert.SiluA2A.xIn_eq m c).trans (hx c)
  have ew : Cert.SiluA2A.wIn (F := Ideal) m = fun _ => w := funext hw
  refine (θ_run Cert.KernelIdeal.defs _ _).mono (fun r h c => ⟨(h.1 c).1.trans ?_, (h.1 c).2⟩) (Cert.SiluA2A.run_main (F := Ideal) m g)
  rw [ex, ew]
  exact Cert.SiluA2A.OUT_block x w v c hv

/-- **The kernel computes the reference**, whose exponent is clipped, where every product is between the clip's bounds. -/
theorem values : Cert.algebraic_KernelIdeal_ReferenceIdeal_pre_in_range_KernelIdeal := fun m g m' g' hpre hin =>
  have hb : ∀ c : Dev Cert.KernelIdeal.nD, Cert.Pre_in_range_KernelIdeal.fn (F := Ideal)
      (Cert.SiluA2A.rowBlock (m' (((0 : Dev Cert.ReferenceIdeal.nD).tc : Thread Cert.ReferenceIdeal.nD Cert.ReferenceIdeal.τ).loc Cert.ReferenceIdeal.main_arg0)) c)
      (m' (((0 : Dev Cert.ReferenceIdeal.nD).tc : Thread Cert.ReferenceIdeal.nD Cert.ReferenceIdeal.τ).loc Cert.ReferenceIdeal.main_arg1)) = fun _ => 1#1 :=
    fun c => (congrArg₂ (Cert.Pre_in_range_KernelIdeal.fn (F := Ideal)) (hin c).1 (hin c).2).symm.trans (hpre c)
  ⟨Cert.SiluA2A.clippedOut _ _,
    mesh_leaves m g _ _ _ (fun c => (hin c).1) (fun c => (hin c).2) (fun j =>
      have hj := Cert.SiluA2A.bounds_whole _ _ hb (j 0) (j 1)
      Cert.SiluA2A.clippedOut_at _ _ j hj.1 hj.2),
    (θ_run Cert.ReferenceIdeal.defs _ _).mono (fun _ h => h 0) (Cert.ReferenceIdeal.Value.run (F := Ideal) m' g')⟩

/-- **The kernel computes the reference without the clip**, at every input. -/
theorem values_unclipped : Cert.algebraic_KernelIdeal_UnclippedIdeal := fun m g m' g' _ hin =>
  ⟨Cert.SiluA2A.unclippedOut _ _,
    mesh_leaves m g _ _ _ (fun c => (hin c).1) (fun c => (hin c).2) (fun j => Cert.SiluA2A.unclippedOut_at _ _ j),
    (θ_run Cert.UnclippedIdeal.defs _ _).mono (fun _ h => h 0) (Cert.UnclippedIdeal.Value.run (F := Ideal) m' g')⟩

theorem claim : Cert.Claim :=
  ⟨Cert.Kernel.Gen.facts, Cert.KernelIdeal.Gen.facts, Cert.ReferenceIdeal.Gen.facts, Cert.UnclippedIdeal.Gen.facts,
    Cert.Pre_in_range_KernelIdeal.Gen.facts, Cert.Pre_in_range_ReferenceIdeal.Gen.facts,
    frame_kernel, frame_ideal, frame_ideal_pre, frame_reference, frame_reference_pre, frame_unclipped, trivial, values, values_unclipped⟩

end Cert.Proof

end
